-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_on_levels [hPre_on_levels : Cert.Pre_on_levels.Facts] (m : (ℓ : Loc Cert.KernelIdeal.nD Cert.KernelIdeal.τ Cert.KernelIdeal.sig) → Buf (Elt Ideal) ℓ) : Prop :=
  ∀ c : Dev Cert.KernelIdeal.nD,
    (Cert.Pre_on_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_on_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_on_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_on_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_UnroundedIdeal (m : (ℓ : Loc Cert.UnroundedIdeal.nD Cert.UnroundedIdeal.τ Cert.UnroundedIdeal.sig) → Buf (Elt Ideal) ℓ) : Prop :=
  True

def Pre_UnroundedIdeal_on_levels [hPre_on_levels : Cert.Pre_on_levels.Facts] (m : (ℓ : Loc Cert.UnroundedIdeal.nD Cert.UnroundedIdeal.τ Cert.UnroundedIdeal.sig) → Buf (Elt Ideal) ℓ) : Prop :=
  ∀ c : Dev Cert.UnroundedIdeal.nD,
    (Cert.Pre_on_levels.fn (F := Ideal) (m ((c.tc : Thread Cert.UnroundedIdeal.nD Cert.UnroundedIdeal.τ).loc Cert.UnroundedIdeal.main_arg0)) (m ((c.tc : Thread Cert.UnroundedIdeal.nD Cert.UnroundedIdeal.τ).loc Cert.UnroundedIdeal.main_arg1))).1 = (fun _ => 1#1)
    ∧ (Cert.Pre_on_levels.fn (F := Ideal) (m ((c.tc : Thread Cert.UnroundedIdeal.nD Cert.UnroundedIdeal.τ).loc Cert.UnroundedIdeal.main_arg0)) (m ((c.tc : Thread Cert.UnroundedIdeal.nD Cert.UnroundedIdeal.τ).loc Cert.UnroundedIdeal.main_arg1))).2.1 = (fun _ => 1#1)
    ∧ (Cert.Pre_on_levels.fn (F := Ideal) (m ((c.tc : Thread Cert.UnroundedIdeal.nD Cert.UnroundedIdeal.τ).loc Cert.UnroundedIdeal.main_arg0)) (m ((c.tc : Thread Cert.UnroundedIdeal.nD Cert.UnroundedIdeal.τ).loc Cert.UnroundedIdeal.main_arg1))).2.2.1 = (fun _ => 1#1)
    ∧ (Cert.Pre_on_levels.fn (F := Ideal) (m ((c.tc : Thread Cert.UnroundedIdeal.nD Cert.UnroundedIdeal.τ).loc Cert.UnroundedIdeal.main_arg0)) (m ((c.tc : Thread Cert.UnroundedIdeal.nD Cert.UnroundedIdeal.τ).loc Cert.UnroundedIdeal.main_arg1))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_on_levels [hKernelIdeal : Cert.KernelIdeal.Facts] [hPre_on_levels : Cert.Pre_on_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnroundedIdeal [hUnroundedIdeal : Cert.UnroundedIdeal.Facts] : Prop :=
  ∀ (m : (ℓ : Loc Cert.UnroundedIdeal.nD Cert.UnroundedIdeal.τ Cert.UnroundedIdeal.sig) → Buf (Elt Ideal) ℓ) (g : Dev Cert.UnroundedIdeal.nD → PrngReg), Pre_UnroundedIdeal m →
    θ_run (Cert.UnroundedIdeal.defs (F := Ideal)) (onTc (τ := Cert.UnroundedIdeal.τ) (Cert.UnroundedIdeal.main (F := Ideal))) ⟨m, fun _ => 0, g⟩ (fun r => (∀ c : Dev Cert.UnroundedIdeal.nD,
      r.2.mem ((c.tc : Thread Cert.UnroundedIdeal.nD Cert.UnroundedIdeal.τ).loc Cert.UnroundedIdeal.main_arg0) = m ((c.tc : Thread Cert.UnroundedIdeal.nD Cert.UnroundedIdeal.τ).loc Cert.UnroundedIdeal.main_arg0)
      ∧ r.2.mem ((c.tc : Thread Cert.UnroundedIdeal.nD Cert.UnroundedIdeal.τ).loc Cert.UnroundedIdeal.main_arg1) = m ((c.tc : Thread Cert.UnroundedIdeal.nD Cert.UnroundedIdeal.τ).loc Cert.UnroundedIdeal.main_arg1))
      ∧ r.2.sem = fun _ => 0)

def quiescent_UnroundedIdeal_pre_on_levels [hUnroundedIdeal : Cert.UnroundedIdeal.Facts] [hPre_on_levels : Cert.Pre_on_levels.Facts] : Prop :=
  ∀ (m : (ℓ : Loc Cert.UnroundedIdeal.nD Cert.UnroundedIdeal.τ Cert.UnroundedIdeal.sig) → Buf (Elt Ideal) ℓ) (g : Dev Cert.UnroundedIdeal.nD → PrngReg), Pre_UnroundedIdeal_on_levels m →
    θ_run (Cert.UnroundedIdeal.defs (F := Ideal)) (onTc (τ := Cert.UnroundedIdeal.τ) (Cert.UnroundedIdeal.main (F := Ideal))) ⟨m, fun _ => 0, g⟩ (fun r => (∀ c : Dev Cert.UnroundedIdeal.nD,
      r.2.mem ((c.tc : Thread Cert.UnroundedIdeal.nD Cert.UnroundedIdeal.τ).loc Cert.UnroundedIdeal.main_arg0) = m ((c.tc : Thread Cert.UnroundedIdeal.nD Cert.UnroundedIdeal.τ).loc Cert.UnroundedIdeal.main_arg0)
      ∧ r.2.mem ((c.tc : Thread Cert.UnroundedIdeal.nD Cert.UnroundedIdeal.τ).loc Cert.UnroundedIdeal.main_arg1) = m ((c.tc : Thread Cert.UnroundedIdeal.nD Cert.UnroundedIdeal.τ).loc Cert.UnroundedIdeal.main_arg1))
      ∧ r.2.sem = fun _ => 0)

def preserves_Kernel_KernelIdeal : Prop :=
  IdealRules.named_const.Statement Cert.KernelIdeal.κ "step" .f32 0x3B810204#32 ((254⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_UnroundedIdeal_pre_on_levels [hKernelIdeal : Cert.KernelIdeal.Facts] [hUnroundedIdeal : Cert.UnroundedIdeal.Facts] [hPre_on_levels : Cert.Pre_on_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnroundedIdeal.nD Cert.UnroundedIdeal.τ Cert.UnroundedIdeal.sig) → Buf (Elt Ideal) ℓ) (g' : Dev Cert.UnroundedIdeal.nD → PrngReg), Pre_KernelIdeal_on_levels m →
    (∀ c : Dev Cert.KernelIdeal.nD,
      m' ((c.tc : Thread Cert.UnroundedIdeal.nD Cert.UnroundedIdeal.τ).loc Cert.UnroundedIdeal.main_arg0) = m ((c.tc : Thread Cert.KernelIdeal.nD Cert.KernelIdeal.τ).loc Cert.KernelIdeal.main_arg0)
      ∧ m' ((c.tc : Thread Cert.UnroundedIdeal.nD Cert.UnroundedIdeal.τ).loc Cert.UnroundedIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnroundedIdeal.defs (F := Ideal)) (onTc (τ := Cert.UnroundedIdeal.τ) (Cert.UnroundedIdeal.main (F := Ideal))) ⟨m', fun _ => 0, g'⟩ (fun r => ∀ c : Dev Cert.UnroundedIdeal.nD,
          r.2.mem ((c.tc : Thread Cert.UnroundedIdeal.nD Cert.UnroundedIdeal.τ).loc Cert.UnroundedIdeal.main_v1) = v0 c
          ∧ r.2.mem ((c.tc : Thread Cert.UnroundedIdeal.nD Cert.UnroundedIdeal.τ).loc Cert.UnroundedIdeal.main_arg0) = m' ((c.tc : Thread Cert.UnroundedIdeal.nD Cert.UnroundedIdeal.τ).loc Cert.UnroundedIdeal.main_arg0)
          ∧ r.2.mem ((c.tc : Thread Cert.UnroundedIdeal.nD Cert.UnroundedIdeal.τ).loc Cert.UnroundedIdeal.main_arg1) = m' ((c.tc : Thread Cert.UnroundedIdeal.nD Cert.UnroundedIdeal.τ).loc Cert.UnroundedIdeal.main_arg1))

def Claim : Prop :=
  ∃ (hKernel : Cert.Kernel.Facts) (hKernelIdeal : Cert.KernelIdeal.Facts) (hReferenceIdeal : Cert.ReferenceIdeal.Facts) (hUnroundedIdeal : Cert.UnroundedIdeal.Facts) (hPre_finite : Cert.Pre_finite.Facts) (hPre_on_levels : Cert.Pre_on_levels.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_on_levels (hKernelIdeal := hKernelIdeal) (hPre_on_levels := hPre_on_levels)
    ∧ quiescent_ReferenceIdeal (hReferenceIdeal := hReferenceIdeal)
    ∧ quiescent_ReferenceIdeal_pre_finite (hReferenceIdeal := hReferenceIdeal) (hPre_finite := hPre_finite)
    ∧ quiescent_UnroundedIdeal (hUnroundedIdeal := hUnroundedIdeal)
    ∧ quiescent_UnroundedIdeal_pre_on_levels (hUnroundedIdeal := hUnroundedIdeal) (hPre_on_levels := hPre_on_levels)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_UnroundedIdeal_pre_on_levels (hKernelIdeal := hKernelIdeal) (hUnroundedIdeal := hUnroundedIdeal) (hPre_on_levels := hPre_on_levels)
-- ==== Pre_finite.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)

variable [Facts]

def fn {F : FTy → Type} [FloatOps F] (main_arg0 : FVec F S10000x128 .f32) (main_arg1 : FVec F S10000x10000 .f32) : IVec S10000x128 1 × IVec S10000x10000 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  (main_v2, main_v5)
-- ==== Pre_on_levels.lean ====
abbrev S10000x128 : Shape := ⟨2, ![10000, 128]⟩
abbrev S10000x10000 : Shape := ⟨2, ![10000, 10000]⟩
abbrev S_ : Shape := ⟨0, ![]⟩

class Facts : Prop where
  bcast_S_S10000x10000 : S_.BroadcastsInDim S10000x10000 (![] : Fin 0 → Fin S10000x10000.rank)
  bcast_S_S10000x128 : S_.BroadcastsInDim S10000x128 (![] : Fin 0 → Fin S10000x128.rank)

variable [Facts]

def fn_round {F : FTy → Type} [FloatOps F] (arg0 : FVec F S10000x10000 .f32) : FVec F S10000x10000 .f32 :=
  let v0 : FVec F S10000x10000 .f32 := Host.roundeven arg0
  v0

def fn {F : FTy → Type} [FloatOps F] (main_arg0 : FVec F S10000x128 .f32) (main_arg1 : FVec F S10000x10000 .f32) : IVec S10000x128 1 × IVec S10000x10000 1 × IVec S10000x10000 1 × IVec S10000x10000 1 :=
  let main_cst : FVec F S_ .f32 := constant S_ .f32 0x437E0000#32
  let main_v0 : FVec F S10000x10000 .f32 := broadcastInDim S10000x10000 ![] bcast_S_S10000x10000 main_cst
  let main_v1 : FVec F S10000x10000 .f32 := mulf main_arg1 main_v0
  let main_cst_0 : FVec F S_ .f32 := constant S_ .f32 0x42FE0000#32
  let main_v2 : FVec F S10000x10000 .f32 := broadcastInDim S10000x10000 ![] bcast_S_S10000x10000 main_cst_0
  let main_v3 : FVec F S10000x10000 .f32 := subf main_v1 main_v2
  let main_v4 : FVec F S10000x128 .f32 := Host.absf main_arg0
  let main_cst_1 : FVec F S_ .f32 := constant S_ .f32 0x7F800000#32
  let main_v5 : FVec F S10000x128 .f32 := broadcastInDim S10000x128 ![] bcast_S_S10000x128 main_cst_1
  let main_v6 : IVec S10000x128 1 := cmpf .olt main_v4 main_v5
  let main_v7 : FVec F S10000x10000 .f32 := fn_round (F := F) main_v3
  let main_v8 : IVec S10000x10000 1 := cmpf .oeq main_v7 main_v3
  let main_cst_2 : FVec F S_ .f32 := constant S_ .f32 0xC3000000#32
  let main_v9 : FVec F S10000x10000 .f32 := broadcastInDim S10000x10000 ![] bcast_S_S10000x10000 main_cst_2
  let main_v10 : IVec S10000x10000 1 := cmpf .oge main_v3 main_v9
  let main_cst_3 : FVec F S_ .f32 := constant S_ .f32 0x42FE0000#32
  let main_v11 : FVec F S10000x10000 .f32 := broadcastInDim S10000x10000 ![] bcast_S_S10000x10000 main_cst_3
  let main_v12 : IVec S10000x10000 1 := cmpf .ole main_v3 main_v11
  (main_v6, main_v8, main_v10, main_v12)
-- ==== Kernel.lean ====
abbrev S10000x128 : Shape := ⟨2, ![10000, 128]⟩
abbrev S10000x10000 : Shape := ⟨2, ![10000, 10000]⟩
abbrev S5x15 : Shape := ⟨2, ![5, 15]⟩
abbrev S15 : Shape := ⟨1, ![15]⟩
abbrev S5x400x2000 : Shape := ⟨3, ![5, 400, 2000]⟩
abbrev S10x400x2000 : Shape := ⟨3, ![10, 400, 2000]⟩
abbrev S15x400x2000 : Shape := ⟨3, ![15, 400, 2000]⟩
abbrev S20x400x2000 : Shape := ⟨3, ![20, 400, 2000]⟩
abbrev S25x400x2000 : Shape := ⟨3, ![25, 400, 2000]⟩
abbrev S5x1x128 : Shape := ⟨3, ![5, 1, 128]⟩
abbrev S400x10000 : Shape := ⟨2, ![400, 10000]⟩
abbrev S400x128 : Shape := ⟨2, ![400, 128]⟩
abbrev S1x400x2000 : Shape := ⟨3, ![1, 400, 2000]⟩
abbrev S1x1x128 : Shape := ⟨3, ![1, 1, 128]⟩
abbrev S10000x256 : Shape := ⟨2, ![10000, 256]⟩
abbrev S2000x128 : Shape := ⟨2, ![2000, 128]⟩
abbrev S400x256 : Shape := ⟨2, ![400, 256]⟩
abbrev S128 : Shape := ⟨1, ![128]⟩
abbrev S100x2000 : Shape := ⟨2, ![100, 2000]⟩
abbrev S1x100x2000 : Shape := ⟨3, ![1, 100, 2000]⟩
abbrev S1x1 : Shape := ⟨2, ![1, 1]⟩
abbrev S1 : Shape := ⟨1, ![1]⟩
abbrev S2000x2000 : Shape := ⟨2, ![2000, 2000]⟩
abbrev S1x128 : Shape := ⟨2, ![1, 128]⟩

abbrev nBuf : Space → Nat
  | .hbm => 12
  | .vmem => 38
  | .smem => 3
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .bf16⟩
  | .hbm, ⟨3, _⟩ => ⟨S10000x128, .bf16⟩
  | .hbm, ⟨4, _⟩ => ⟨S10000x128, .f32⟩
  | .hbm, ⟨5, _⟩ => ⟨S5x400x2000, .i8⟩
  | .hbm, ⟨6, _⟩ => ⟨S10x400x2000, .i8⟩
  | .hbm, ⟨7, _⟩ => ⟨S15x400x2000, .i8⟩
  | .hbm, ⟨8, _⟩ => ⟨S20x400x2000, .i8⟩
  | .hbm, ⟨9, _⟩ => ⟨S25x400x2000, .i8⟩
  | .hbm, ⟨10, _⟩ => ⟨S5x1x128, .f32⟩
  | .hbm, ⟨11, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .bf16⟩
  | .local _ .vmem, ⟨4, _⟩ => ⟨S400x128, .bf16⟩
  | .local _ .vmem, ⟨5, _⟩ => ⟨S400x128, .f32⟩
  | .local _ .vmem, ⟨6, _⟩ => ⟨S400x128, .f32⟩
  | .local _ .vmem, ⟨7, _⟩ => ⟨S1x400x2000, .i8⟩
  | .local _ .vmem, ⟨8, _⟩ => ⟨S1x400x2000, .i8⟩
  | .local _ .vmem, ⟨9, _⟩ => ⟨S1x400x2000, .i8⟩
  | .local _ .vmem, ⟨10, _⟩ => ⟨S1x400x2000, .i8⟩
  | .local _ .vmem, ⟨11, _⟩ => ⟨S1x400x2000, .i8⟩
  | .local _ .vmem, ⟨12, _⟩ => ⟨S1x400x2000, .i8⟩
  | .local _ .vmem, ⟨13, _⟩ => ⟨S1x400x2000, .i8⟩
  | .local _ .vmem, ⟨14, _⟩ => ⟨S1x400x2000, .i8⟩
  | .local _ .vmem, ⟨15, _⟩ => ⟨S1x400x2000, .i8⟩
  | .local _ .vmem, ⟨16, _⟩ => ⟨S1x400x2000, .i8⟩
  | .local _ .vmem, ⟨17, _⟩ => ⟨S1x1x128, .f32⟩
  | .local _ .vmem, ⟨18, _⟩ => ⟨S1x1x128, .f32⟩
  | .local _ .vmem, ⟨19, _⟩ => ⟨S10000x256, .f32⟩
  | .local _ .vmem, ⟨20, _⟩ => ⟨S2000x128, .f32⟩
  | .local _ .vmem, ⟨21, _⟩ => ⟨S5x400x2000, .i8⟩
  | .local _ .vmem, ⟨22, _⟩ => ⟨S5x400x2000, .i8⟩
  | .local _ .vmem, ⟨23, _⟩ => ⟨S5x400x2000, .i8⟩
  | .local _ .vmem, ⟨24, _⟩ => ⟨S5x400x2000, .i8⟩
  | .local _ .vmem, ⟨25, _⟩ => ⟨S5x400x2000, .i8⟩
  | .local _ .vmem, ⟨26, _⟩ => ⟨S5x400x2000, .i8⟩
  | .local _ .vmem, ⟨27, _⟩ => ⟨S5x400x2000, .i8⟩
  | .local _ .vmem, ⟨28, _⟩ => ⟨S5x400x2000, .i8⟩
  | .local _ .vmem, ⟨29, _⟩ => ⟨S5x400x2000, .i8⟩
  | .local _ .vmem, ⟨30, _⟩ => ⟨S5x400x2000, .i8⟩
  | .local _ .vmem, ⟨31, _⟩ => ⟨S10000x128, .bf16⟩
  | .local _ .vmem, ⟨32, _⟩ => ⟨S1x1x128, .f32⟩
  | .local _ .vmem, ⟨33, _⟩ => ⟨S1x1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .smem, ⟨0, _⟩ => ⟨S5x15, .i32⟩
  | .local _ .smem, ⟨1, _⟩ => ⟨S15, .i32⟩
  | .local _ .smem, ⟨2, _⟩ => ⟨S15, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v1_2 : Ref sig .tc := ⟨.hbm, 5, rfl⟩
abbrev main_call0_v1_3 : Ref sig .tc := ⟨.hbm, 6, rfl⟩
abbrev main_call0_v1_4 : Ref sig .tc := ⟨.hbm, 7, rfl⟩
abbrev main_call0_v1_5 : Ref sig .tc := ⟨.hbm, 8, rfl⟩
abbrev main_call0_v1_6 : Ref sig .tc := ⟨.hbm, 9, rfl⟩
abbrev main_call0_v1_7 : Ref sig .tc := ⟨.hbm, 10, rfl⟩
abbrev main_v0 : Ref sig .tc := ⟨.hbm, 11, rfl⟩
abbrev main_call0_c : Ref sig .tc := ⟨.smem, 0, rfl⟩
abbrev main_call0_c_0 : Ref sig .tc := ⟨.smem, 1, rfl⟩
abbrev main_call0_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c5_i32_25 : BitVec 32 := 5#32
  let c0_i32_26 : BitVec 32 := 0#32
  let v43 : BitVec 1 := Scalar.cmpi .eq c5_i32_25 c0_i32_26
  let c1_i32_27 : BitVec 32 := 1#32
  let v44 : BitVec 32 := Scalar.select v43 c1_i32_27 c5_i32_25
  let v45 : BitVec 32 := Scalar.remsi arg0 v44
  let c0_i32_29 : BitVec 32 := 0#32
  let v47 : BitVec 1 := Scalar.cmpi .slt v45 c0_i32_29
  let c0_i32_30 : BitVec 32 := 0#32
  let v48 : BitVec 1 := Scalar.cmpi .slt v44 c0_i32_30
  let v49 : BitVec 1 := Scalar.xori v47 v48
  let c0_i32_28 : BitVec 32 := 0#32
  let v46 : BitVec 1 := Scalar.cmpi .ne v45 c0_i32_28
  let v50 : BitVec 1 := Scalar.andi v49 v46
  let v51 : BitVec 32 := Scalar.addi v45 v44
  let v52 : BitVec 32 := Scalar.select v50 v51 v45
  let c400_i32 : BitVec 32 := 400#32
  let v53 : BitVec 32 := Scalar.muli v52 c400_i32
  let v54 : Index := Scalar.indexCast v53
  let c0_31 : Index := 0#32
  ![v54.toNat, 0]
def k0_cond4 (i : grid0.Coords) : BitVec 1 :=
  let arg0 : BitVec 32 := BitVec.ofNat 32 (i 0).val
  let c5_i32_32 : BitVec 32 := 5#32
  let c0_i32_33 : BitVec 32 := 0#32
  let v58 : BitVec 1 := Scalar.cmpi .eq c5_i32_32 c0_i32_33
  let c1_i32_34 : BitVec 32 := 1#32
  let v59 : BitVec 32 := Scalar.select v58 c1_i32_34 c5_i32_32
  let v60 : BitVec 32 := Scalar.remsi arg0 v59
  let c0_i32_36 : BitVec 32 := 0#32
  let v62 : BitVec 1 := Scalar.cmpi .slt v60 c0_i32_36
  let c0_i32_37 : BitVec 32 := 0#32
  let v63 : BitVec 1 := Scalar.cmpi .slt v59 c0_i32_37
  let v64 : BitVec 1 := Scalar.xori v62 v63
  let c0_i32_35 : BitVec 32 := 0#32
  let v61 : BitVec 1 := Scalar.cmpi .ne v60 c0_i32_35
  let v65 : BitVec 1 := Scalar.andi v64 v61
  let v66 : BitVec 32 := Scalar.addi v60 v59
  let v67 : BitVec 32 := Scalar.select v65 v66 v60
  let c4_i32 : BitVec 32 := 4#32
  let v68 : BitVec 1 := Scalar.cmpi .eq v67 c4_i32
  let v69 : BitVec 32 := Scalar.extui v68
  let c0_i32_38 : BitVec 32 := 0#32
  let v70 : BitVec 1 := Scalar.cmpi .ne v69 c0_i32_38
  v70

def k0_off2 (i : grid0.Coords) : Fin 2 → Nat :=
  let arg0 : BitVec 32 := BitVec.ofNat 32 (i 0).val
  let c0_i32_48 : BitVec 32 := 0#32
  let v88 : BitVec 1 := Scalar.cmpi .sgt arg0 c0_i32_48
  let v89 : BitVec 32 := Scalar.extui v88
  let c0_i32_49 : BitVec 32 := 0#32
  let v90 : BitVec 1 := Scalar.cmpi .slt arg0 c0_i32_49
  let v91 : BitVec 32 := Scalar.extui v90
  let v92 : BitVec 32 := Scalar.subi v89 v91
  let c5_i32_47 : BitVec 32 := 5#32
  let c0_i32_50 : BitVec 32 := 0#32
  let v93 : BitVec 1 := Scalar.cmpi .sgt c5_i32_47 c0_i32_50
  let v94 : BitVec 32 := Scalar.extui v93
  let c0_i32_51 : BitVec 32 := 0#32
  let v95 : BitVec 1 := Scalar.cmpi .slt c5_i32_47 c0_i32_51
  let v96 : BitVec 32 := Scalar.extui v95
  let v97 : BitVec 32 := Scalar.subi v94 v96
  let v98 : BitVec 1 := Scalar.cmpi .ne v92 v97
  let v99 : BitVec 32 := Scalar.remsi arg0 c5_i32_47
  let c0_i32_52 : BitVec 32 := 0#32
  let v100 : BitVec 1 := Scalar.cmpi .ne v99 c0_i32_52
  let v101 : BitVec 1 := Scalar.andi v98 v100
  let v87 : BitVec 32 := Scalar.divsi arg0 c5_i32_47
  let c1_i32_53 : BitVec 32 := 1#32
  let v102 : BitVec 32 := Scalar.subi v87 c1_i32_53
  let v103 : BitVec 32 := Scalar.select v101 v102 v87
  let c2000_i32 : BitVec 32 := 2000#32
  let v104 : BitVec 32 := Scalar.muli v103 c2000_i32
  let v105 : Index := Scalar.indexCast v104
  let c128 : Index := 128#32
  ![v105.toNat, 128]
def k0_cond5 (i : grid0.Coords) : BitVec 1 :=
  let arg0 : BitVec 32 := BitVec.ofNat 32 (i 0).val
  let c4_i32_39 : BitVec 32 := 4#32
  let v71 : BitVec 1 := Scalar.cmpi .sle arg0 c4_i32_39
  let v72 : BitVec 32 := Scalar.extui v71
  let c0_i32_40 : BitVec 32 := 0#32
  let v73 : BitVec 1 := Scalar.cmpi .ne v72 c0_i32_40
  v73

def k0_cond6 (i : grid0.Coords) : BitVec 1 :=
  let arg0 : BitVec 32 := BitVec.ofNat 32 (i 0).val
  let c9_i32 : BitVec 32 := 9#32
  let v74 : BitVec 1 := Scalar.cmpi .sle arg0 c9_i32
  let v75 : BitVec 32 := Scalar.extui v74
  let c0_i32_41 : BitVec 32 := 0#32
  let v76 : BitVec 1 := Scalar.cmpi .ne v75 c0_i32_41
  v76

def k0_cond7 (i : grid0.Coords) : BitVec 1 :=
  let arg0 : BitVec 32 := BitVec.ofNat 32 (i 0).val
  let c14_i32 : BitVec 32 := 14#32
  let v77 : BitVec 1 := Scalar.cmpi .sle arg0 c14_i32
  let v78 : BitVec 32 := Scalar.extui v77
  let c0_i32_42 : BitVec 32 := 0#32
  let v79 : BitVec 1 := Scalar.cmpi .ne v78 c0_i32_42
  v79

def k0_cond8 (i : grid0.Coords) : BitVec 1 :=
  let arg0 : BitVec 32 := BitVec.ofNat 32 (i 0).val
  let c19_i32 : BitVec 32 := 19#32
  let v80 : BitVec 1 := Scalar.cmpi .sle arg0 c19_i32
  let v81 : BitVec 32 := Scalar.extui v80
  let c0_i32_43 : BitVec 32 := 0#32
  let v82 : BitVec 1 := Scalar.cmpi .ne v81 c0_i32_43
  v82

def k0_cond9 (i : grid0.Coords) : BitVec 1 :=
  let arg0 : BitVec 32 := BitVec.ofNat 32 (i 0).val
  let c24_i32 : BitVec 32 := 24#32
  let v83 : BitVec 1 := Scalar.cmpi .sle arg0 c24_i32
  let v84 : BitVec 32 := Scalar.extui v83
  let c0_i32_44 : BitVec 32 := 0#32
  let v85 : BitVec 1 := Scalar.cmpi .ne v84 c0_i32_44
  v85

def k0_cond2 (i : grid0.Coords) : BitVec 1 :=
  let arg0 : BitVec 32 := BitVec.ofNat 32 (i 0).val
  let c5_i32 : BitVec 32 := 5#32
  let c0_i32_11 : BitVec 32 := 0#32
  let v17 : BitVec 1 := Scalar.cmpi .eq c5_i32 c0_i32_11
  let c1_i32 : BitVec 32 := 1#32
  let v18 : BitVec 32 := Scalar.select v17 c1_i32 c5_i32
  let v19 : BitVec 32 := Scalar.remsi arg0 v18
  let c0_i32_13 : BitVec 32 := 0#32
  let v21 : BitVec 1 := Scalar.cmpi .slt v19 c0_i32_13
  let c0_i32_14 : BitVec 32 := 0#32
  let v22 : BitVec 1 := Scalar.cmpi .slt v18 c0_i32_14
  let v23 : BitVec 1 := Scalar.xori v21 v22
  let c0_i32_12 : BitVec 32 := 0#32
  let v20 : BitVec 1 := Scalar.cmpi .ne v19 c0_i32_12
  let v24 : BitVec 1 := Scalar.andi v23 v20
  let v25 : BitVec 32 := Scalar.addi v19 v18
  let v26 : BitVec 32 := Scalar.select v24 v25 v19
  let c0_i32_15 : BitVec 32 := 0#32
  let v27 : BitVec 1 := Scalar.cmpi .eq v26 c0_i32_15
  let v28 : BitVec 32 := Scalar.extui v27
  let c0_i32_16 : BitVec 32 := 0#32
  let v29 : BitVec 1 := Scalar.cmpi .ne v28 c0_i32_16
  v29

def k0_cond3 (i : grid0.Coords) : BitVec 1 :=
  let arg0 : BitVec 32 := BitVec.ofNat 32 (i 0).val
  let c5_i32_17 : BitVec 32 := 5#32
  let c0_i32_18 : BitVec 32 := 0#32
  let v30 : BitVec 1 := Scalar.cmpi .eq c5_i32_17 c0_i32_18
  let c1_i32_19 : BitVec 32 := 1#32
  let v31 : BitVec 32 := Scalar.select v30 c1_i32_19 c5_i32_17
  let v32 : BitVec 32 := Scalar.remsi arg0 v31
  let c0_i32_21 : BitVec 32 := 0#32
  let v34 : BitVec 1 := Scalar.cmpi .slt v32 c0_i32_21
  let c0_i32_22 : BitVec 32 := 0#32
  let v35 : BitVec 1 := Scalar.cmpi .slt v31 c0_i32_22
  let v36 : BitVec 1 := Scalar.xori v34 v35
  let c0_i32_20 : BitVec 32 := 0#32
  let v33 : BitVec 1 := Scalar.cmpi .ne v32 c0_i32_20
  let v37 : BitVec 1 := Scalar.andi v36 v33
  let v38 : BitVec 32 := Scalar.addi v32 v31
  let v39 : BitVec 32 := Scalar.select v37 v38 v32
  let c0_i32_23 : BitVec 32 := 0#32
  let v40 : BitVec 1 := Scalar.cmpi .ne v39 c0_i32_23
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c14_i32 : BitVec 32 := 14#32
  let v0 : BitVec 32 := Scalar.minsi arg0 c14_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c19_i32 : BitVec 32 := 19#32
  let v0 : BitVec 32 := Scalar.minsi arg0 c19_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x400x2000 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x400x2000 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x400x2000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x400x2000 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x400x2000 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![15], ![false]⟩

abbrev pre1 : Pipeline.Prefetch sig := ⟨3, ![main_call0_c.idx, main_call0_c_0.idx, main_call0_c_1.idx], fun | 0 => main_call0_c.names | 1 => main_call0_c_0.names | 2 => main_call0_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 2 → Nat :=
  let c0 : Index := 0#32
  let arg0 : BitVec 32 := BitVec.ofNat 32 (i 0).val
  let v0 : Index := Scalar.indexCast arg0
  ![0, v0.toNat]
def k1_off2 (i : grid1.Coords) : Fin 2 → Nat :=
  let c1 : Index := 1#32
  let arg0 : BitVec 32 := BitVec.ofNat 32 (i 0).val
  let v0 : Index := Scalar.indexCast arg0
  ![1, v0.toNat]
def k1_off3 (i : grid1.Coords) : Fin 2 → Nat :=
  let c2 : Index := 2#32
  let arg0 : BitVec 32 := BitVec.ofNat 32 (i 0).val
  let v0 : Index := Scalar.indexCast arg0
  ![2, v0.toNat]
def k1_off4 (i : grid1.Coords) : Fin 2 → Nat :=
  let c3 : Index := 3#32
  let arg0 : BitVec 32 := BitVec.ofNat 32 (i 0).val
  let v0 : Index := Scalar.indexCast arg0
  ![3, v0.toNat]
def k1_off5 (i : grid1.Coords) : Fin 2 → Nat :=
  let c4 : Index := 4#32
  let arg0 : BitVec 32 := BitVec.ofNat 32 (i 0).val
  let v0 : Index := Scalar.indexCast arg0
  ![4, v0.toNat]
def k1_off6 (i : grid1.Coords) : Fin 1 → Nat :=
  let arg0 : BitVec 32 := BitVec.ofNat 32 (i 0).val
  let v0 : Index := Scalar.indexCast arg0
  ![v0.toNat]
def k1_cond1 (v1 : BitVec 32) (v3 : BitVec 32) : BitVec 1 :=
  let v4 : BitVec 1 := Scalar.cmpi .eq v1 v3
  let v5 : BitVec 32 := Scalar.extui v4
  let c0_i32 : BitVec 32 := 0#32
  let v6 : BitVec 1 := Scalar.cmpi .ne v5 c0_i32
  v6

def k1_cond2 (v1 : BitVec 32) : BitVec 1 :=
  let c0_i32_0 : BitVec 32 := 0#32
  let v7 : BitVec 1 := Scalar.cmpi .eq v1 c0_i32_0
  let v8 : BitVec 32 := Scalar.extui v7
  let c0_i32_1 : BitVec 32 := 0#32
  let v9 : BitVec 1 := Scalar.cmpi .ne v8 c0_i32_1
  v9

def k1_cond3 (v1 : BitVec 32) : BitVec 1 :=
  let c1_i32 : BitVec 32 := 1#32
  let v10 : BitVec 1 := Scalar.cmpi .eq v1 c1_i32
  let v11 : BitVec 32 := Scalar.extui v10
  let c0_i32_2 : BitVec 32 := 0#32
  let v12 : BitVec 1 := Scalar.cmpi .ne v11 c0_i32_2
  v12

def k1_cond4 (v1 : BitVec 32) : BitVec 1 :=
  let c2_i32 : BitVec 32 := 2#32
  let v13 : BitVec 1 := Scalar.cmpi .eq v1 c2_i32
  let v14 : BitVec 32 := Scalar.extui v13
  let c0_i32_3 : BitVec 32 := 0#32
  let v15 : BitVec 1 := Scalar.cmpi .ne v14 c0_i32_3
  v15

def k1_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def k1_cond6 (v1 : BitVec 32) : BitVec 1 :=
  let c4_i32 : BitVec 32 := 4#32
  let v19 : BitVec 1 := Scalar.cmpi .eq v1 c4_i32
  let v20 : BitVec 32 := Scalar.extui v19
  let c0_i32_5 : BitVec 32 := 0#32
  let v21 : BitVec 1 := Scalar.cmpi .ne v20 c0_i32_5
  v21

def cc1_transform_0 (k1_off1_inb : ∀ i : grid1.Coords, ∀ a, (k1_off1 i) a + S1x1.size a ≤ S5x15.size a) (numel1_S1x1 : S1x1.numel = 1) (pf : pre1.Contents (Elt F)) (i : grid1.Coords) : Fin 3 → Nat :=
  let arg0 : BitVec 32 := BitVec.ofNat 32 (i 0).val
  let c0 : Index := 0#32
  let v0 : Index := Scalar.indexCast arg0
  let v1 : BitVec 32 := pf.at 0 (Rect.unit (s := S5x15) ![0, v0.toNat] S1x1.size (k1_off1_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_1 (k1_off2_inb : ∀ i : grid1.Coords, ∀ a, (k1_off2 i) a + S1x1.size a ≤ S5x15.size a) (numel1_S1x1 : S1x1.numel = 1) (pf : pre1.Contents (Elt F)) (i : grid1.Coords) : Fin 3 → Nat :=
  let arg0 : BitVec 32 := BitVec.ofNat 32 (i 0).val
  let c1 : Index := 1#32
  let v0 : Index := Scalar.indexCast arg0
  let v1 : BitVec 32 := pf.at 0 (Rect.unit (s := S5x15) ![1, v0.toNat] S1x1.size (k1_off2_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_2 (k1_off3_inb : ∀ i : grid1.Coords, ∀ a, (k1_off3 i) a + S1x1.size a ≤ S5x15.size a) (numel1_S1x1 : S1x1.numel = 1) (pf : pre1.Contents (Elt F)) (i : grid1.Coords) : Fin 3 → Nat :=
  let arg0 : BitVec 32 := BitVec.ofNat 32 (i 0).val
  let c2 : Index := 2#32
  let v0 : Index := Scalar.indexCast arg0
  let v1 : BitVec 32 := pf.at 0 (Rect.unit (s := S5x15) ![2, v0.toNat] S1x1.size (k1_off3_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_3 (k1_off4_inb : ∀ i : grid1.Coords, ∀ a, (k1_off4 i) a + S1x1.size a ≤ S5x15.size a) (numel1_S1x1 : S1x1.numel = 1) (pf : pre1.Contents (Elt F)) (i : grid1.Coords) : Fin 3 → Nat :=
  let arg0 : BitVec 32 := BitVec.ofNat 32 (i 0).val
  let c3 : Index := 3#32
  let v0 : Index := Scalar.indexCast arg0
  let v1 : BitVec 32 := pf.at 0 (Rect.unit (s := S5x15) ![3, v0.toNat] S1x1.size (k1_off4_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_4 (k1_off5_inb : ∀ i : grid1.Coords, ∀ a, (k1_off5 i) a + S1x1.size a ≤ S5x15.size a) (numel1_S1x1 : S1x1.numel = 1) (pf : pre1.Contents (Elt F)) (i : grid1.Coords) : Fin 3 → Nat :=
  let arg0 : BitVec 32 := BitVec.ofNat 32 (i 0).val
  let c4 : Index := 4#32
  let v0 : Index := Scalar.indexCast arg0
  let v1 : BitVec 32 := pf.at 0 (Rect.unit (s := S5x15) ![4, v0.toNat] S1x1.size (k1_off5_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (k1_off6_inb : ∀ i : grid1.Coords, ∀ a, (k1_off6 i) a + S1.size a ≤ S15.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 2 (Rect.unit (s := S15) ![v0.toNat] S1.size (k1_off6_inb i)) numel1_S1
  let c0_i32 : BitVec 32 := 0#32
  let c0_i32_0 : BitVec 32 := 0#32
  let c0_i32_1 : BitVec 32 := 0#32
  ![v1.toNat, c0_i32.toNat, c0_i32_0.toNat]

def cc1_transform_7 (k1_off6_inb : ∀ i : grid1.Coords, ∀ a, (k1_off6 i) a + S1.size a ≤ S15.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S15) ![v0.toNat] S1.size (k1_off6_inb i)) numel1_S1
  let c0_i32 : BitVec 32 := 0#32
  let c0_i32_0 : BitVec 32 := 0#32
  ![v1.toNat, c0_i32.toNat]

def cc1_transform_8 (k1_off6_inb : ∀ i : grid1.Coords, ∀ a, (k1_off6 i) a + S1.size a ≤ S15.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S15) ![v0.toNat] S1.size (k1_off6_inb i)) numel1_S1
  let c0_i32 : BitVec 32 := 0#32
  let c0_i32_0 : BitVec 32 := 0#32
  ![v1.toNat, c0_i32.toNat]

abbrev stage1_0 : Fin 2 → Memref sig .tc .vmem S5x400x2000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5x400x2000 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5x400x2000 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5x400x2000 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5x400x2000 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S10000x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "step" => some ((254⁻¹ : ℝ) : EReal)
  | _ => none
-- ==== ReferenceIdeal.lean ====
abbrev S10000x128 : Shape := ⟨2, ![10000, 128]⟩
abbrev S10000x10000 : Shape := ⟨2, ![10000, 10000]⟩
abbrev S_ : Shape := ⟨0, ![]⟩
abbrev S5 : Shape := ⟨1, ![5]⟩
abbrev S5x1 : Shape := ⟨2, ![5, 1]⟩
abbrev S5x2000 : Shape := ⟨2, ![5, 2000]⟩
abbrev S10000 : Shape := ⟨1, ![10000]⟩
abbrev S1x10000 : Shape := ⟨2, ![1, 10000]⟩
abbrev S10000x1 : Shape := ⟨2, ![10000, 1]⟩

abbrev nBuf : Space → Nat
  | .hbm => 35
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S_, .f32⟩
  | .hbm, ⟨4, _⟩ => ⟨S10000x10000, .f32⟩
  | .hbm, ⟨5, _⟩ => ⟨S10000x10000, .f32⟩
  | .hbm, ⟨6, _⟩ => ⟨S_, .f32⟩
  | .hbm, ⟨7, _⟩ => ⟨S10000x10000, .f32⟩
  | .hbm, ⟨8, _⟩ => ⟨S10000x10000, .f32⟩
  | .hbm, ⟨9, _⟩ => ⟨S10000x10000, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S5, .i32⟩
  | .hbm, ⟨19, _⟩ => ⟨S5x1, .i32⟩
  | .hbm, ⟨20, _⟩ => ⟨S5x2000, .i32⟩
  | .hbm, ⟨21, _⟩ => ⟨S10000, .i32⟩
  | .hbm, ⟨22, _⟩ => ⟨S1x10000, .i32⟩
  | .hbm, ⟨23, _⟩ => ⟨S10000x1, .i32⟩
  | .hbm, ⟨24, _⟩ => ⟨S10000x10000, .i32⟩
  | .hbm, ⟨25, _⟩ => ⟨S10000x10000, .i32⟩
  | .hbm, ⟨26, _⟩ => ⟨S10000x10000, .i1⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S_, .f32⟩
  | .hbm, ⟨31, _⟩ => ⟨S10000x10000, .f32⟩
  | .hbm, ⟨32, _⟩ => ⟨S10000x10000, .f32⟩
  | .hbm, ⟨33, _⟩ => ⟨S10000x10000, .f32⟩
  | .hbm, ⟨34, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== UnroundedIdeal.lean ====
abbrev S10000x128 : Shape := ⟨2, ![10000, 128]⟩
abbrev S10000x10000 : Shape := ⟨2, ![10000, 10000]⟩

abbrev nBuf : Space → Nat
  | .hbm => 4
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Body0.lean ====
module
public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.VecWindow
public import Idealize.ShloMosaic.Lib.ValueLayout

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 eq_ix2 eq_ix3)

variable {F : FTy → Type} [FloatOps F] [Named F]

local notation "𝕄" => MT nD τ sig Unit (Elt F) ℕ (UR sig nD τ) ℕ

/-- The grid point with coordinate `n`. -/
def pt (n : Fin 25) : grid0.Coords := fun a => ⟨n.val, by have : a = 0 := Subsingleton.elim _ _; subst this; exact n.isLt⟩

theorem off1_pt : ∀ n : Fin 25, k0_off1 (pt n) = ![400 * (n.val % 5), 0] := by decide +kernel
theorem off2_pt : ∀ n : Fin 25, k0_off2 (pt n) = ![2000 * (n.val / 5), 128] := by decide +kernel

theorem pt_eq (i : grid0.Coords) : pt (i 0) = i := by
  funext a
  have : a = 0 := Subsingleton.elim _ _
  subst this
  rfl

theorem off1_eq (i : grid0.Coords) : k0_off1 i = ![400 * ((i 0).val % 5), 0] := by
  have h := off1_pt (i 0); rw [pt_eq] at h; exact h
theorem off2_eq (i : grid0.Coords) : k0_off2 i = ![2000 * ((i 0).val / 5), 128] := by
  have h := off2_pt (i 0); rw [pt_eq] at h; exact h

instance closedOff1 (i : grid0.Coords) : ClosedOff (k0_off1 i) := ⟨![400 * ((i 0).val % 5), 0], off1_eq i⟩
instance closedOff2 (i : grid0.Coords) : ClosedOff (k0_off2 i) := ⟨![2000 * ((i 0).val / 5), 128], off2_eq i⟩

theorem first_pt : ∀ n : Fin 25, (Scalar.cmpi .ne (Scalar.extui (Scalar.cmpi .eq (BitVec.ofNat 32 n.val) 0#32) : BitVec 32) 0#32 = 1#1) ↔ n.val = 0 := by decide +kernel
theorem cond2_pt : ∀ n : Fin 25, k0_cond2 (pt n) = 1#1 ↔ n.val % 5 = 0 := by decide +kernel
theorem cond3_pt : ∀ n : Fin 25, k0_cond3 (pt n) = 1#1 ↔ n.val % 5 ≠ 0 := by decide +kernel
theorem cond4_pt : ∀ n : Fin 25, k0_cond4 (pt n) = 1#1 ↔ n.val % 5 = 4 := by decide +kernel
theorem cond5_pt : ∀ n : Fin 25, k0_cond5 (pt n) = 1#1 ↔ n.val ≤ 4 := by decide +kernel
theorem cond6_pt : ∀ n : Fin 25, k0_cond6 (pt n) = 1#1 ↔ n.val ≤ 9 := by decide +kernel
theorem cond7_pt : ∀ n : Fin 25, k0_cond7 (pt n) = 1#1 ↔ n.val ≤ 14 := by decide +kernel
theorem cond8_pt : ∀ n : Fin 25, k0_cond8 (pt n) = 1#1 ↔ n.val ≤ 19 := by decide +kernel
theorem cond9_pt : ∀ n : Fin 25, k0_cond9 (pt n) = 1#1 ↔ n.val ≤ 24 := by decide +kernel

theorem cond2_iff (i : grid0.Coords) : k0_cond2 i = 1#1 ↔ (i 0).val % 5 = 0 := by
  have h := cond2_pt (i 0); rw [pt_eq] at h; exact h
theorem cond3_iff (i : grid0.Coords) : k0_cond3 i = 1#1 ↔ (i 0).val % 5 ≠ 0 := by
  have h := cond3_pt (i 0); rw [pt_eq] at h; exact h
theorem cond4_iff (i : grid0.Coords) : k0_cond4 i = 1#1 ↔ (i 0).val % 5 = 4 := by
  have h := cond4_pt (i 0); rw [pt_eq] at h; exact h
theorem cond5_iff (i : grid0.Coords) : k0_cond5 i = 1#1 ↔ (i 0).val ≤ 4 := by
  have h := cond5_pt (i 0); rw [pt_eq] at h; exact h
theorem cond6_iff (i : grid0.Coords) : k0_cond6 i = 1#1 ↔ (i 0).val ≤ 9 := by
  have h := cond6_pt (i 0); rw [pt_eq] at h; exact h
theorem cond7_iff (i : grid0.Coords) : k0_cond7 i = 1#1 ↔ (i 0).val ≤ 14 := by
  have h := cond7_pt (i 0); rw [pt_eq] at h; exact h
theorem cond8_iff (i : grid0.Coords) : k0_cond8 i = 1#1 ↔ (i 0).val ≤ 19 := by
  have h := cond8_pt (i 0); rw [pt_eq] at h; exact h
theorem cond9_iff (i : grid0.Coords) : k0_cond9 i = 1#1 ↔ (i 0).val ≤ 24 := by
  have h := cond9_pt (i 0); rw [pt_eq] at h; exact h

/-- The matrix `[x | 0]` the first grid point lays down over whatever the accumulator held. -/
def start (g : Vec F S10000x256 .f32) (x : Vec F S10000x128 .bf16) : Vec F S10000x256 .f32 :=
  VecWindow.put (VecWindow.put g ![0, 0] S10000x128.size (k0_pay27 x)) ![0, 128] S10000x128.size k0_pay28

/-- What the accumulator holds once a point has begun. -/
def acc (n : ℕ) (g : Vec F S10000x256 .f32) (x : Vec F S10000x128 .bf16) : Vec F S10000x256 .f32 :=
  if n = 0 then start g x else g

/-- What a point leaves in the running half column sums. -/
def sums (n : ℕ) (a : Vec F S400x10000 .f32) (g' : Vec F S10000x256 .f32) (s : Vec F S1x1x128 .f32) : Vec F S1x1x128 .f32 :=
  if n % 5 = 0 then k0_pay33 a g' else k0_pay34 (k0_pay33 a g') s

/-- What a point leaves in the band's stage: its own four hundred rows replaced. -/
def staged (n : ℕ) (a : Vec F S400x10000 .f32) (g' : Vec F S10000x256 .f32) (st : Vec F S2000x128 .f32) : Vec F S2000x128 .f32 :=
  VecWindow.put st ![400 * (n % 5), 0] S400x128.size (k0_pay35 (k0_pay30 a g'))

/-- What a point leaves in the accumulator: at a band's last point the band's rows of the right half become its stage. -/
def filled (n : ℕ) (g' : Vec F S10000x256 .f32) (st' : Vec F S2000x128 .f32) : Vec F S10000x256 .f32 :=
  if n % 5 = 4 then VecWindow.put g' ![2000 * (n / 5), 128] S2000x128.size (k0_pay1 st') else g'

/-- The quantiser of one element. -/
def quant (v : F .f32) : BitVec 8 :=
  FloatOps.fptosi 8 (FloatOps.roundeven (FloatOps.subf (FloatOps.mulf v (Scalar.ofBits .f32 0x437E0000#32)) (Scalar.ofBits .f32 0x42FE0000#32)))

/-- The quantised two thousand columns of a panel that start at column `o`. -/
def quantBlock (o : ℕ) (ho : o + 2000 ≤ 10000) (a : Vec F S400x10000 .f32) : Vec F S1x400x2000 .i8 :=
  fun y => quant (a (ix2 (⟨(y 1).val, (y 1).isLt⟩ : Fin 400) (⟨o + (y 2).val, by have h : (y 2).val < 2000 := (y 2).isLt; omega⟩ : Fin 10000)))

theorem pay7_apply (w : Vec F S100x2000 .f32) (x : S1x100x2000.Idx) : k0_pay7 w x = quant (w (ix2 (x 1) (x 2))) := by
  obtain ⟨u, i, j, rfl⟩ : ∃ (u : Fin 1) (i : Fin 100) (j : Fin 2000), x = ix3 u i j := ⟨x 0, x 1, x 2, eq_ix3 x⟩
  unfold k0_pay7
  exact ValueIdx.shapeCast_ab_1ab_apply _ _ _ _ _

/-- A quantised hundred rows, stored over rows `o` to `o + 100`, are those rows of the quantised panel. -/
theorem quant_rows (o r : ℕ) (ho : o + 2000 ≤ 10000) (a : Vec F S400x10000 .f32)
    (inb : ∀ k, (![0, r, 0] : Fin 3 → ℕ) k + S1x100x2000.size k ≤ S1x400x2000.size k)
    (inb' : ∀ k, (![r, o] : Fin 2 → ℕ) k + S100x2000.size k ≤ S400x10000.size k) (x : S1x100x2000.Idx) :
    k0_pay7 (VecWindow.window a ![r, o] S100x2000.size inb') x = quantBlock o ho a ((Rect.unit (s := S1x400x2000) ![0, r, 0] S1x100x2000.size inb).emb x) := by
  rw [pay7_apply]
  refine congrArg quant (congrArg a (funext fun k => Fin.ext ?_))
  match k with
  | ⟨0, _⟩ => rfl
  | ⟨1, _⟩ => show o + 1 * (x 2).val = o + (0 + 1 * (x 2).val); omega

/-- The same rows, the hundred rows loaded from the panel's own buffer. -/
theorem quant_loaded (o r : ℕ) (ho : o + 2000 ≤ 10000) (a : Vec F S400x10000 .f32) (m : Memref sig .tc .vmem S400x10000 .f32) (hm : m.IsWhole)
    (inb : ∀ k, (![0, r, 0] : Fin 3 → ℕ) k + S1x100x2000.size k ≤ S1x400x2000.size k)
    (inb' : ∀ k, (![r, o] : Fin 2 → ℕ) k + S100x2000.size k ≤ S400x10000.size k) (x : S1x100x2000.Idx) :
    k0_pay7 (m.view.readAt (Elt F) (Rect.unit (s := S400x10000) ![r, o] S100x2000.size inb').toLoadRect (hm.unread a)) x
      = quantBlock o ho a ((Rect.unit (s := S1x400x2000) ![0, r, 0] S1x100x2000.size inb).emb x) := by
  rw [View.readAt_unit m.view _ inb' rfl inb', hm.read_unread]
  exact quant_rows o r ho a inb inb' x

section Run
variable (c : Dev nD) (i : grid0.Coords) (arg1 : Memref sig .tc .vmem S400x10000 .f32) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S400x128 .f32) (harg4 : arg4.IsWhole) (arg5 : Memref sig .tc .vmem S1x400x2000 .i8) (harg5 : arg5.IsWhole) (arg6 : Memref sig .tc .vmem S1x400x2000 .i8) (harg6 : arg6.IsWhole) (arg7 : Memref sig .tc .vmem S1x400x2000 .i8) (harg7 : arg7.IsWhole) (arg8 : Memref sig .tc .vmem S1x400x2000 .i8) (harg8 : arg8.IsWhole) (arg9 : Memref sig .tc .vmem S1x400x2000 .i8) (harg9 : arg9.IsWhole) (arg10 : Memref sig .tc .vmem S1x1x128 .f32) (harg10 : arg10.IsWhole) (arg11 : Memref sig .tc .vmem S10000x256 .f32) (harg11 : arg11.IsWhole) (arg12 : Memref sig .tc .vmem S2000x128 .f32) (harg12 : arg12.IsWhole)

set_option maxHeartbeats 2000000 in
/-- The body of a point of the first region, run once for every point: what each buffer holds at the end, from what it held at the start. -/
theorem body_run (E : Set ℕ) (a : Vec F S400x10000 .f32) (x : Vec F S10000x128 .bf16) (q0 q1 q2 q3 q4 : Vec F S1x400x2000 .i8) (s : Vec F S1x1x128 .f32) (g : Vec F S10000x256 .f32) (st : Vec F S2000x128 .f32)
    (K : PUnit → sProp 𝕄) :
    iprop(owns (c : Thread nD τ) arg1 fullShare a ∗ owns (c : Thread nD τ) arg2 fullShare x ∗ (∃ d, owns (c : Thread nD τ) arg3 fullShare d) ∗ (∃ d, owns (c : Thread nD τ) arg4 fullShare d)
        ∗ owns (c : Thread nD τ) arg5 fullShare q0 ∗ owns (c : Thread nD τ) arg6 fullShare q1 ∗ owns (c : Thread nD τ) arg7 fullShare q2 ∗ owns (c : Thread nD τ) arg8 fullShare q3 ∗ owns (c : Thread nD τ) arg9 fullShare q4
        ∗ owns (c : Thread nD τ) arg10 fullShare s ∗ owns (c : Thread nD τ) arg11 fullShare g ∗ owns (c : Thread nD τ) arg12 fullShare st
        ∗ (iprop(owns (c : Thread nD τ) arg1 fullShare a ∗ owns (c : Thread nD τ) arg2 fullShare x ∗ owns (c : Thread nD τ) arg3 fullShare (k0_pay32 a (acc (i 0).val g x)) ∗ owns (c : Thread nD τ) arg4 fullShare (k0_pay31 a (acc (i 0).val g x))
        ∗ owns (c : Thread nD τ) arg5 fullShare (if (i 0).val ≤ 4 then quantBlock 0 (by decide) a else q0) ∗ owns (c : Thread nD τ) arg6 fullShare (if (i 0).val ≤ 9 then quantBlock 2000 (by decide) a else q1)
        ∗ owns (c : Thread nD τ) arg7 fullShare (if (i 0).val ≤ 14 then quantBlock 4000 (by decide) a else q2) ∗ owns (c : Thread nD τ) arg8 fullShare (if (i 0).val ≤ 19 then quantBlock 6000 (by decide) a else q3)
        ∗ owns (c : Thread nD τ) arg9 fullShare (if (i 0).val ≤ 24 then quantBlock 8000 (by decide) a else q4)
        ∗ owns (c : Thread nD τ) arg10 fullShare (sums (i 0).val a (acc (i 0).val g x) s)
        ∗ owns (c : Thread nD τ) arg11 fullShare (filled (i 0).val (acc (i 0).val g x) (staged (i 0).val a (acc (i 0).val g x) st)) ∗ owns (c : Thread nD τ) arg12 fullShare (staged (i 0).val a (acc (i 0).val g x) st)) -∗ K ⟨⟩))
      ⊢ wp frame (wpE (defs₀ (F := F)) Variants.none c none) E (cc0__p1_body (F := F) i arg1 harg1 arg2 harg2 arg3 harg3 arg4 harg4 arg5 harg5 arg6 harg6 arg7 harg7 arg8 harg8 arg9 harg9 arg10 harg10 arg11 harg11 arg12 harg12) K := by
  simp only [cc0__p1_body_eq_skeleton]; unfold cc0__p1_body_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf1; obtain rfl := harg2.eq_unread hf2; obtain rfl := harg10.eq_unread hf10; obtain rfl := harg11.eq_unread hf11
  obtain rfl := harg5.eq_unread hf5; obtain rfl := harg6.eq_unread hf6; obtain rfl := harg7.eq_unread hf7; obtain rfl := harg8.eq_unread hf8; obtain rfl := harg9.eq_unread hf9; obtain rfl := harg12.eq_unread hf12
  sl_exec
  sl_step
  have hfirst : body_run.sl.v2 i = 1#1 ↔ (i 0).val = 0 := first_pt (i 0)
  have hacc : arg11.view.read (Elt F) (if hc : body_run.sl.v2 i = 1#1 then
      arg11.view.writes (Elt F) (harg11.unread g)
        [⟨Rect.unit ![0, 128] S10000x128.size inb_S10000x256_S10000x128_0_128, k0_pay28⟩,
          ⟨Rect.unit ![0, 0] S10000x128.size inb_S10000x256_S10000x128_0_0,
            k0_pay27 (View.readAt (Elt F) arg2.view (Rect.unit ![0, 0] S10000x128.size inb_S10000x128_S10000x128_0_0).toLoadRect (harg2.unread x))⟩]
      else harg11.unread g) = acc (i 0).val g x := by
    unfold acc
    by_cases h : (i 0).val = 0
    · rw [dif_pos (hfirst.mpr h), if_pos h, View.read_writes_cons_put _ _ _ _ _ rfl, View.read_writes_cons_put _ _ _ _ _ rfl, View.readAt_full, View.writes_nil, harg2.read_unread, harg11.read_unread]
      rfl
    · rw [dif_neg (fun h' => h (hfirst.mp h')), if_neg h, harg11.read_unread]
  have hv4 : body_run.sl.v4 c i arg2 harg2 arg11 harg11 x g = acc (i 0).val g x := by
    unfold body_run.sl.v4
    rw [View.readAt_full]
    exact hacc
  have ha : View.readAt (Elt F) arg1.view (Rect.unit ![0, 0] S400x10000.size inb_S400x10000_S400x10000_0_0).toLoadRect (harg1.unread a) = a := by
    rw [View.readAt_full, harg1.read_unread]
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    unfold body_run.sl.H3_1
    rw [View.read_writes_full, hv4, ha]
  isplitl [H4]
  · iexists _; isplitr; swap; · iexact H4
    ipureintro
    unfold body_run.sl.H4_1
    rw [View.read_writes_full, hv4, ha]
  isplitl [H5]
  · iexists _; isplitr; swap; · iexact H5
    ipureintro
    by_cases h : (i 0).val ≤ 4
    · rw [dif_pos ((cond5_iff i).mpr h), if_pos h]
      funext y
      refine View.read_writes_apply_of_pieces arg5.view _ (quantBlock 0 (by decide) a) _ (fun p hp x' => ?_) y (View.cover_of_tiledL (s := S1x400x2000) _ ![1, 100, 2000] (by sl_kernel_rfl) y)
      simp only [List.mem_cons, List.not_mem_nil, _root_.or_false] at hp
      rcases hp with rfl | rfl | rfl | rfl
      · exact quant_loaded 0 300 _ a arg1 harg1 inb_S1x400x2000_S1x100x2000_0_300_0 inb_S400x10000_S100x2000_300_0 x'
      · exact quant_loaded 0 200 _ a arg1 harg1 inb_S1x400x2000_S1x100x2000_0_200_0 inb_S400x10000_S100x2000_200_0 x'
      · exact quant_loaded 0 100 _ a arg1 harg1 inb_S1x400x2000_S1x100x2000_0_100_0 inb_S400x10000_S100x2000_100_0 x'
      · exact quant_loaded 0 0 _ a arg1 harg1 inb_S1x400x2000_S1x100x2000_0_0_0 inb_S400x10000_S100x2000_0_0 x'
    · rw [dif_neg (fun h' => h ((cond5_iff i).mp h')), if_neg h, harg5.read_unread]
  isplitl [H6]
  · iexists _; isplitr; swap; · iexact H6
    ipureintro
    by_cases h : (i 0).val ≤ 9
    · rw [dif_pos ((cond6_iff i).mpr h), if_pos h]
      funext y
      refine View.read_writes_apply_of_pieces arg6.view _ (quantBlock 2000 (by decide) a) _ (fun p hp x' => ?_) y (View.cover_of_tiledL (s := S1x400x2000) _ ![1, 100, 2000] (by sl_kernel_rfl) y)
      simp only [List.mem_cons, List.not_mem_nil, _root_.or_false] at hp
      rcases hp with rfl | rfl | rfl | rfl
      · exact quant_loaded 2000 300 _ a arg1 harg1 inb_S1x400x2000_S1x100x2000_0_300_0 inb_S400x10000_S100x2000_300_2000 x'
      · exact quant_loaded 2000 200 _ a arg1 harg1 inb_S1x400x2000_S1x100x2000_0_200_0 inb_S400x10000_S100x2000_200_2000 x'
      · exact quant_loaded 2000 100 _ a arg1 harg1 inb_S1x400x2000_S1x100x2000_0_100_0 inb_S400x10000_S100x2000_100_2000 x'
      · exact quant_loaded 2000 0 _ a arg1 harg1 inb_S1x400x2000_S1x100x2000_0_0_0 inb_S400x10000_S100x2000_0_2000 x'
    · rw [dif_neg (fun h' => h ((cond6_iff i).mp h')), if_neg h, harg6.read_unread]
  isplitl [H7]
  · iexists _; isplitr; swap; · iexact H7
    ipureintro
    by_cases h : (i 0).val ≤ 14
    · rw [dif_pos ((cond7_iff i).mpr h), if_pos h]
      funext y
      refine View.read_writes_apply_of_pieces arg7.view _ (quantBlock 4000 (by decide) a) _ (fun p hp x' => ?_) y (View.cover_of_tiledL (s := S1x400x2000) _ ![1, 100, 2000] (by sl_kernel_rfl) y)
      simp only [List.mem_cons, List.not_mem_nil, _root_.or_false] at hp
      rcases hp with rfl | rfl | rfl | rfl
      · exact quant_loaded 4000 300 _ a arg1 harg1 inb_S1x400x2000_S1x100x2000_0_300_0 inb_S400x10000_S100x2000_300_4000 x'
      · exact quant_loaded 4000 200 _ a arg1 harg1 inb_S1x400x2000_S1x100x2000_0_200_0 inb_S400x10000_S100x2000_200_4000 x'
      · exact quant_loaded 4000 100 _ a arg1 harg1 inb_S1x400x2000_S1x100x2000_0_100_0 inb_S400x10000_S100x2000_100_4000 x'
      · exact quant_loaded 4000 0 _ a arg1 harg1 inb_S1x400x2000_S1x100x2000_0_0_0 inb_S400x10000_S100x2000_0_4000 x'
    · rw [dif_neg (fun h' => h ((cond7_iff i).mp h')), if_neg h, harg7.read_unread]
  isplitl [H8]
  · iexists _; isplitr; swap; · iexact H8
    ipureintro
    by_cases h : (i 0).val ≤ 19
    · rw [dif_pos ((cond8_iff i).mpr h), if_pos h]
      funext y
      refine View.read_writes_apply_of_pieces arg8.view _ (quantBlock 6000 (by decide) a) _ (fun p hp x' => ?_) y (View.cover_of_tiledL (s := S1x400x2000) _ ![1, 100, 2000] (by sl_kernel_rfl) y)
      simp only [List.mem_cons, List.not_mem_nil, _root_.or_false] at hp
      rcases hp with rfl | rfl | rfl | rfl
      · exact quant_loaded 6000 300 _ a arg1 harg1 inb_S1x400x2000_S1x100x2000_0_300_0 inb_S400x10000_S100x2000_300_6000 x'
      · exact quant_loaded 6000 200 _ a arg1 harg1 inb_S1x400x2000_S1x100x2000_0_200_0 inb_S400x10000_S100x2000_200_6000 x'
      · exact quant_loaded 6000 100 _ a arg1 harg1 inb_S1x400x2000_S1x100x2000_0_100_0 inb_S400x10000_S100x2000_100_6000 x'
      · exact quant_loaded 6000 0 _ a arg1 harg1 inb_S1x400x2000_S1x100x2000_0_0_0 inb_S400x10000_S100x2000_0_6000 x'
    · rw [dif_neg (fun h' => h ((cond8_iff i).mp h')), if_neg h, harg8.read_unread]
  isplitl [H9]
  · iexists _; isplitr; swap; · iexact H9
    ipureintro
    by_cases h : (i 0).val ≤ 24
    · rw [dif_pos ((cond9_iff i).mpr h), if_pos h]
      funext y
      refine View.read_writes_apply_of_pieces arg9.view _ (quantBlock 8000 (by decide) a) _ (fun p hp x' => ?_) y (View.cover_of_tiledL (s := S1x400x2000) _ ![1, 100, 2000] (by sl_kernel_rfl) y)
      simp only [List.mem_cons, List.not_mem_nil, _root_.or_false] at hp
      rcases hp with rfl | rfl | rfl | rfl
      · exact quant_loaded 8000 300 _ a arg1 harg1 inb_S1x400x2000_S1x100x2000_0_300_0 inb_S400x10000_S100x2000_300_8000 x'
      · exact quant_loaded 8000 200 _ a arg1 harg1 inb_S1x400x2000_S1x100x2000_0_200_0 inb_S400x10000_S100x2000_200_8000 x'
      · exact quant_loaded 8000 100 _ a arg1 harg1 inb_S1x400x2000_S1x100x2000_0_100_0 inb_S400x10000_S100x2000_100_8000 x'
      · exact quant_loaded 8000 0 _ a arg1 harg1 inb_S1x400x2000_S1x100x2000_0_0_0 inb_S400x10000_S100x2000_0_8000 x'
    · rw [dif_neg (fun h' => h ((cond9_iff i).mp h')), if_neg h, harg9.read_unread]
  isplitl [H10]
  · iexists _; isplitr; swap; · iexact H10
    ipureintro
    by_cases h : (i 0).val % 5 = 0
    · rw [dif_neg (fun h' => (cond3_iff i).mp h' h), dif_pos ((cond2_iff i).mpr h), View.read_writes_full, hv4, ha]
      unfold sums
      rw [if_pos h]
    · rw [dif_pos ((cond3_iff i).mpr h), View.read_writes_full]
      unfold body_run.sl.v88 sums
      rw [if_neg h]
      unfold body_run.sl.v87 body_run.sl.r_1 body_run.sl.v86
      rw [hv4, ha, View.readAt_full, dif_neg (fun h' => h ((cond2_iff i).mp h')), harg10.read_unread]
      rfl
  have hst : arg12.view.read (Elt F) (arg12.view.writes (Elt F) (harg12.unread st) (body_run.sl.H12_1 c i arg1 harg1 arg2 harg2 arg11 harg11 a x g)) = staged (i 0).val a (acc (i 0).val g x) st := by
    unfold body_run.sl.H12_1
    rw [View.read_writes_cons_put _ _ _ _ _ (off1_eq i), View.writes_nil, harg12.read_unread]
    unfold body_run.sl.v57 body_run.sl.r
    rw [hv4, ha]
    rfl
  isplitl [H11]
  · iexists _; isplitr; swap; · iexact H11
    ipureintro
    unfold filled
    by_cases h : (i 0).val % 5 = 4
    · rw [dif_pos ((cond4_iff i).mpr h), if_pos h, View.read_writes_cons_put _ _ _ _ _ (off2_eq i), View.writes_nil, hacc, View.readAt_full, hst]
    · rw [dif_neg (fun h' => h ((cond4_iff i).mp h')), if_neg h, hacc]
  iexists _; isplitr; swap; · iexact H12
  ipureintro
  exact hst

end Run
end Cert.KernelIdeal.Two
-- ==== Proof.Ideal.State0.lean ====
module
public import proofs.«01_k».proof.Proof.Ideal.Body0

@[expose] public section
set_option maxRecDepth 16384
noncomputable section
namespace Cert.KernelIdeal.Two

open Cert.KernelIdeal Cert.KernelIdeal.Gen
open Idealize.ShloMosaic

variable {F : FTy → Type} [FloatOps F] [Named F]

/-! What the first pass carries from grid point to grid point, as functions of the panels `A` and of `x`. -/

/-- The first point's matrix does not depend on what the accumulator held. -/
theorem start_eq (g g' : Vec F S10000x256 .f32) (x : Vec F S10000x128 .bf16) : start g x = start g' x := by
  funext y
  have h0 : (y 0).val < 10000 := (y 0).isLt
  have h1 : (y 1).val < 256 := (y 1).isLt
  unfold start VecWindow.put
  by_cases hr : ∀ a, (![0, 128] : Fin 2 → ℕ) a ≤ (y a).val ∧ (y a).val < (![0, 128] : Fin 2 → ℕ) a + S10000x128.size a
  · rw [dif_pos hr, dif_pos hr]
  · rw [dif_neg hr, dif_neg hr]
    by_cases hl : ∀ a, (![0, 0] : Fin 2 → ℕ) a ≤ (y a).val ∧ (y a).val < (![0, 0] : Fin 2 → ℕ) a + S10000x128.size a
    · rw [dif_pos hl, dif_pos hl]
    · exfalso
      by_cases hc : (y 1).val < 128
      · exact hl fun a => match a with
          | 0 => ⟨Nat.zero_le _, lt_of_lt_of_eq h0 (Nat.zero_add _).symm⟩
          | 1 => ⟨Nat.zero_le _, lt_of_lt_of_eq hc (Nat.zero_add _).symm⟩
      · exact hr fun a => match a with
          | 0 => ⟨Nat.zero_le _, lt_of_lt_of_eq h0 (Nat.zero_add _).symm⟩
          | 1 => ⟨Nat.le_of_not_lt hc, h1⟩

/-- A fixed content to start from: nothing computed depends on it. -/
def blank {s : Shape} : Vec F s .f32 := fun _ => Scalar.ofBits .f32 0#32

variable (A : ℕ → Vec F S400x10000 .f32) (X : Vec F S10000x128 .bf16)

/-- The accumulator and the stage before point `n` (the accumulator at point 0 once the point has begun). -/
def carried : ℕ → Vec F S10000x256 .f32 × Vec F S2000x128 .f32
  | 0 => (start blank X, blank)
  | n + 1 => (filled n (carried n).1 (staged n (A n) (carried n).1 (carried n).2), staged n (A n) (carried n).1 (carried n).2)

/-- The accumulator point `n` multiplies its panel by. -/
def accAt (n : ℕ) : Vec F S10000x256 .f32 := (carried A X n).1

/-- The half column sums after point `n`. -/
def sumsAt : ℕ → Vec F S1x1x128 .f32
  | 0 => sums 0 (A 0) (accAt A X 0) blank
  | n + 1 => sums (n + 1) (A (n + 1)) (accAt A X (n + 1)) (sumsAt n)

/-- What is known of the two scratch buffers before point `n`: the accumulator from the second point on, and of the
    stage the rows this band has written. -/
def Known (n : ℕ) (g : Vec F S10000x256 .f32) (st : Vec F S2000x128 .f32) : Prop :=
  (n ≠ 0 → g = accAt A X n) ∧ ∀ y : S2000x128.Idx, (y 0).val < 400 * (n % 5) → st y = (carried A X n).2 y

theorem known_zero (g : Vec F S10000x256 .f32) (st : Vec F S2000x128 .f32) : Known A X 0 g st :=
  ⟨fun h => absurd rfl h, fun y h => absurd h (Nat.not_lt_zero _)⟩

theorem acc_eq {n : ℕ} {g : Vec F S10000x256 .f32} {st : Vec F S2000x128 .f32} (h : Known A X n g st) : acc n g X = accAt A X n := by
  unfold acc
  split
  · next h0 => subst h0; exact start_eq _ _ _
  · next h0 => exact h.1 h0

/-- Two stages that agree on the rows written so far agree on one panel more after the next point. -/
theorem staged_agree (n : ℕ) (a : Vec F S400x10000 .f32) (g : Vec F S10000x256 .f32) (st st' : Vec F S2000x128 .f32)
    (h : ∀ y : S2000x128.Idx, (y 0).val < 400 * (n % 5) → st y = st' y) (y : S2000x128.Idx) (hy : (y 0).val < 400 * (n % 5 + 1)) :
    staged n a g st y = staged n a g st' y := by
  unfold staged VecWindow.put
  by_cases hb : ∀ k, (![400 * (n % 5), 0] : Fin 2 → ℕ) k ≤ (y k).val ∧ (y k).val < (![400 * (n % 5), 0] : Fin 2 → ℕ) k + S400x128.size k
  · rw [dif_pos hb, dif_pos hb]
  · rw [dif_neg hb, dif_neg hb]
    refine h y (Nat.lt_of_not_le fun hle => hb fun k => ?_)
    match k with
    | 0 => exact ⟨hle, by show (y 0).val < 400 * (n % 5) + 400; omega⟩
    | 1 => exact ⟨Nat.zero_le _, lt_of_lt_of_eq (y 1).isLt (Nat.zero_add _).symm⟩

theorem known_succ {n : ℕ} {g : Vec F S10000x256 .f32} {st : Vec F S2000x128 .f32} (h : Known A X n g st) :
    Known A X (n + 1) (filled n (accAt A X n) (staged n (A n) (accAt A X n) st)) (staged n (A n) (accAt A X n) st) := by
  have hs := staged_agree n (A n) (accAt A X n) st (carried A X n).2 h.2
  refine ⟨fun _ => ?_, fun y hy => ?_⟩
  · show _ = filled n (carried A X n).1 (staged n (A n) (carried A X n).1 (carried A X n).2)
    unfold filled
    by_cases h4 : n % 5 = 4
    · rw [if_pos h4, if_pos h4]
      refine congrArg (fun s => VecWindow.put (accAt A X n) ![2000 * (n / 5), 128] S2000x128.size (k0_pay1 s)) (funext fun y => hs y ?_)
      have : (y 0).val < 2000 := (y 0).isLt
      omega
    · rw [if_neg h4, if_neg h4]
      rfl
  · refine hs y ?_
    omega

end Cert.KernelIdeal.Two
-- ==== Proof.Ideal.Region0.lean ====
module
public import proofs.«01_k».proof.Proof.Ideal.State0
public import proofs.«01_k».proof.Proof.Gen.KernelIdeal.Points
public import Idealize.ShloMosaic.Lib.Pipeline.RegionArraysS

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

variable (V : Dev nD → Valuation τ sig (Elt F))

/-- A window's block at a point, read off its array as the first pass finds it. -/
def block0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The point with number `n`, read round the grid. -/
def at0 (n : ℕ) : Fin cfg0.N := ⟨n % 25, by have h : cfg0.N = 25 := N_0; rw [h]; exact Nat.mod_lt _ (by decide)⟩

theorem at0_val (t : Fin cfg0.N) : at0 t.val = t :=
  Fin.ext (Nat.mod_eq_of_lt (lt_of_lt_of_eq t.isLt (show cfg0.N = 25 from N_0)))

/-- The panels of the matrix, by point, -/
def panels (c : Dev nD) (n : ℕ) : Vec F S400x10000 .f32 := block0 V c 0 (at0 n)
/-- and the vector the first pass multiplies. -/
def vec0 (c : Dev nD) : Vec F S10000x128 .bf16 := block0 V c 1 (at0 0)

/-- The coordinate of a point is its number. -/
theorem coords0 (t : Fin cfg0.N) : ((grid0.coords t) 0).val = t.val :=
  (by decide +kernel : ∀ t : Fin grid0.N, ((grid0.coords t) 0).val = t.val) t

/-- The staging buffers of other calls, at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The first pass's invariant before point `n`. -/
def inv0 (c : Dev nD) (n : ℕ) : sProp 𝕄 :=
  iprop(∃ g st, ⌜Known (panels V c) (vec0 V c) n g st⌝ ∗ owns (c : Thread nD τ) (Memref.whole cc0_scratch0) fullShare g ∗ owns (c : Thread nD τ) (Memref.whole cc0_scratch1) fullShare st
    ∗ others0 (F := F) c ∗ ∃ r, prngReg c r)

/-- The first pass's proof data: its arrays as it finds them, what each window's buffer holds after each point, the invariant;
    nothing owed, full shares. -/
def dat0 (c : Dev nD) : Dat τ (Elt F) Unit ℕ (UR sig nD τ) ℕ cfg0 c where
  A w := V c (Proc.devRef .tc (Pipeline.arrRef spec0 w))
  after w t := match w with
    | ⟨0, _⟩ => block0 V c 0 t
    | ⟨1, _⟩ => block0 V c 1 t
    | ⟨2, _⟩ => k0_pay32 (panels V c t.val) (accAt (panels V c) (vec0 V c) t.val)
    | ⟨3, _⟩ => k0_pay31 (panels V c t.val) (accAt (panels V c) (vec0 V c) t.val)
    | ⟨4, _⟩ => quantBlock 0 (by decide) (panels V c (min t.val 4))
    | ⟨5, _⟩ => quantBlock 2000 (by decide) (panels V c (min t.val 9))
    | ⟨6, _⟩ => quantBlock 4000 (by decide) (panels V c (min t.val 14))
    | ⟨7, _⟩ => quantBlock 6000 (by decide) (panels V c (min t.val 19))
    | ⟨8, _⟩ => quantBlock 8000 (by decide) (panels V c (min t.val 24))
    | ⟨9, _⟩ => sumsAt (panels V c) (vec0 V c) t.val
  Φ t := inv0 V c t.val
  q _ := fullShare
  owed _ := 0

theorem array0 (c : Dev nD) (w : Fin cfg0.W) : (dat0 V c).A w = V c (Proc.devRef .tc (Pipeline.arrRef spec0 w)) := by
  dsimp only [dat0]

theorem after0_0 (c : Dev nD) (t : Fin cfg0.N) : (dat0 V c).after 0 t = block0 V c 0 t := by dsimp only [dat0]
theorem after0_1 (c : Dev nD) (t : Fin cfg0.N) : (dat0 V c).after 1 t = block0 V c 1 t := by dsimp only [dat0]
theorem after0_2 (c : Dev nD) (t : Fin cfg0.N) : (dat0 V c).after 2 t = k0_pay32 (panels V c t.val) (accAt (panels V c) (vec0 V c) t.val) := by dsimp only [dat0]
theorem after0_3 (c : Dev nD) (t : Fin cfg0.N) : (dat0 V c).after 3 t = k0_pay31 (panels V c t.val) (accAt (panels V c) (vec0 V c) t.val) := by dsimp only [dat0]
theorem after0_4 (c : Dev nD) (t : Fin cfg0.N) : (dat0 V c).after 4 t = quantBlock 0 (by decide) (panels V c (min t.val 4)) := by dsimp only [dat0]
theorem after0_5 (c : Dev nD) (t : Fin cfg0.N) : (dat0 V c).after 5 t = quantBlock 2000 (by decide) (panels V c (min t.val 9)) := by dsimp only [dat0]
theorem after0_6 (c : Dev nD) (t : Fin cfg0.N) : (dat0 V c).after 6 t = quantBlock 4000 (by decide) (panels V c (min t.val 14)) := by dsimp only [dat0]
theorem after0_7 (c : Dev nD) (t : Fin cfg0.N) : (dat0 V c).after 7 t = quantBlock 6000 (by decide) (panels V c (min t.val 19)) := by dsimp only [dat0]
theorem after0_8 (c : Dev nD) (t : Fin cfg0.N) : (dat0 V c).after 8 t = quantBlock 8000 (by decide) (panels V c (min t.val 24)) := by dsimp only [dat0]
theorem after0_9 (c : Dev nD) (t : Fin cfg0.N) : (dat0 V c).after 9 t = sumsAt (panels V c) (vec0 V c) t.val := by dsimp only [dat0]

theorem before0_0 (c : Dev nD) (t : Fin cfg0.N) (d) : (dat0 V c).before 0 t d = block0 V c 0 t :=
  ((dat0 V c).before_in_eq_fetched 0 rfl (fun _ => rfl) (fun _ _ _ => rfl) (fun t => by rw [after0_0]; unfold Dat.blockOf block0; rw [array0]; try rfl) t d).trans
    (by unfold Dat.fetched Dat.blockOf block0; rw [array0]; try rfl)

theorem before0_1 (c : Dev nD) (t : Fin cfg0.N) (d) : (dat0 V c).before 1 t d = block0 V c 1 t :=
  ((dat0 V c).before_in_eq_fetched 1 rfl (fun _ => rfl) (fun _ _ _ => rfl) (fun t => by rw [after0_1]; unfold Dat.blockOf block0; rw [array0]; try rfl) t d).trans
    (by unfold Dat.fetched Dat.blockOf block0; rw [array0]; try rfl)

theorem panels_val (c : Dev nD) (t : Fin cfg0.N) : panels V c t.val = block0 V c 0 t := by
  unfold panels; rw [at0_val]

/-- The running sums are never idle. -/
theorem live0_9 (t : Fin cfg0.N) : cfg0.idle 9 (cfg0.grid.coords t) = false := by
  show (!(k0_cond2 (grid0.coords t) == 1#1) && !(k0_cond3 (grid0.coords t) == 1#1)) = false
  by_cases h : ((grid0.coords t) 0).val % 5 = 0
  · rw [(cond2_iff _).mpr h]; rfl
  · rw [(cond3_iff _).mpr h]; exact Bool.and_false _

theorem before0_9 (c : Dev nD) (t : Fin cfg0.N) (ht : ¬t.val % 5 = 0) (d) :
    (dat0 V c).before 9 t d = sumsAt (panels V c) (vec0 V c) (t.val - 1) := by
  have hN : t.val < 25 := lt_of_lt_of_eq t.isLt (show cfg0.N = 25 from N_0)
  rw [(dat0 V c).before_of_pos 9 t (by omega) ((cfg0.win 9).fetch_out rfl t), if_neg (fun h => by have := (flush0_9 _).mp h; dsimp only at this; omega)]
  unfold Dat.left
  rw [live0_9]
  dsimp only
  unfold Dat.kept
  rw [after0_9]
  rfl

theorem live0_4 (t : Fin cfg0.N) (ht : t.val ≤ 4) : cfg0.idle 4 (cfg0.grid.coords t) = false := by
  show (!(k0_cond5 (grid0.coords t) == 1#1)) = false
  rw [(cond5_iff _).mpr (by rw [coords0]; exact ht)]; rfl

theorem idle0_4 (t : Fin cfg0.N) (ht : ¬t.val ≤ 4) : cfg0.idle 4 (cfg0.grid.coords t) = true := by
  show (!(k0_cond5 (grid0.coords t) == 1#1)) = true
  rw [Bool.not_eq_true', beq_eq_false_iff_ne]
  exact fun h => ht (by rw [← coords0 t]; exact (cond5_iff _).mp h)

theorem kept0_4 : ∀ t : Fin cfg0.N, 4 ≤ t.val → t.val < 24 → (cfg0.win 4).flush t = false :=
  (by decide +kernel : ∀ t : Fin grid0.N, 4 ≤ t.val → t.val < 24 → win0_4.flush t = false)

/-- Past its last block the window's buffer holds what that block's point left. -/
theorem before0_4 (c : Dev nD) (d) : ∀ (n : ℕ) (h : n < cfg0.N), ¬n ≤ 4 → (dat0 V c).before 4 ⟨n, h⟩ d = quantBlock 0 (by decide) (panels V c 4) := by
  intro n
  induction n with
  | zero => exact fun _ h => absurd (Nat.zero_le _) h
  | succ n ih =>
    intro h hn
    have hN : n + 1 < 25 := lt_of_lt_of_eq h (show cfg0.N = 25 from N_0)
    rw [(dat0 V c).before_of_pos 4 ⟨n + 1, h⟩ (Nat.succ_ne_zero n) ((cfg0.win 4).fetch_out rfl _),
      kept0_4 ⟨n + 1 - 1, _⟩ (by show 4 ≤ n; omega) (by show n < 24; omega), if_neg Bool.false_ne_true]
    unfold Dat.left
    by_cases hl : n ≤ 4
    · rw [live0_4 ⟨n + 1 - 1, _⟩ hl]
      dsimp only
      unfold Dat.kept
      rw [after0_4]
      have he : n = 4 := by omega
      subst he
      rfl
    · rw [idle0_4 ⟨n + 1 - 1, _⟩ hl]
      exact ih (by omega) hl

/-- What the point leaves in the window's buffer is what its data states. -/
theorem leaves0_4 (c : Dev nD) (t : Fin cfg0.N) (d) :
    owns (c : Thread nD τ) (st0_4 t) fullShare (if t.val ≤ 4 then quantBlock 0 (by decide) (panels V c t.val) else (dat0 V c).before 4 t d)
      ⊢ ((dat0 V c).leavesExact 4 t : sProp 𝕄) := by
  have hN : t.val < 25 := lt_of_lt_of_eq t.isLt (show cfg0.N = 25 from N_0)
  by_cases h : t.val ≤ 4
  · rw [if_pos h]
    unfold Dat.leavesExact
    rw [live0_4 t h, after0_4, Nat.min_eq_left h]
  · rw [if_neg h]
    unfold Dat.leavesExact
    rw [idle0_4 t h]
    by_cases h24 : t.val < 24
    · rw [kept0_4 t (by omega) h24]
      dsimp only
      iintro H
      iexists d
      iexact H
    · have hfl : (cfg0.win 4).flush t = true := (by decide +kernel : ∀ t : Fin grid0.N, ¬t.val < 24 → win0_4.flush t = true) t h24
      rw [hfl, after0_4, Nat.min_eq_right (by omega), before0_4 V c d t.val t.isLt h]

theorem live0_5 (t : Fin cfg0.N) (ht : t.val ≤ 9) : cfg0.idle 5 (cfg0.grid.coords t) = false := by
  show (!(k0_cond6 (grid0.coords t) == 1#1)) = false
  rw [(cond6_iff _).mpr (by rw [coords0]; exact ht)]; rfl

theorem idle0_5 (t : Fin cfg0.N) (ht : ¬t.val ≤ 9) : cfg0.idle 5 (cfg0.grid.coords t) = true := by
  show (!(k0_cond6 (grid0.coords t) == 1#1)) = true
  rw [Bool.not_eq_true', beq_eq_false_iff_ne]
  exact fun h => ht (by rw [← coords0 t]; exact (cond6_iff _).mp h)

theorem kept0_5 : ∀ t : Fin cfg0.N, 9 ≤ t.val → t.val < 24 → (cfg0.win 5).flush t = false :=
  (by decide +kernel : ∀ t : Fin grid0.N, 9 ≤ t.val → t.val < 24 → win0_5.flush t = false)

/-- Past its last block the window's buffer holds what that block's point left. -/
theorem before0_5 (c : Dev nD) (d) : ∀ (n : ℕ) (h : n < cfg0.N), ¬n ≤ 9 → (dat0 V c).before 5 ⟨n, h⟩ d = quantBlock 2000 (by decide) (panels V c 9) := by
  intro n
  induction n with
  | zero => exact fun _ h => absurd (Nat.zero_le _) h
  | succ n ih =>
    intro h hn
    have hN : n + 1 < 25 := lt_of_lt_of_eq h (show cfg0.N = 25 from N_0)
    rw [(dat0 V c).before_of_pos 5 ⟨n + 1, h⟩ (Nat.succ_ne_zero n) ((cfg0.win 5).fetch_out rfl _),
      kept0_5 ⟨n + 1 - 1, _⟩ (by show 9 ≤ n; omega) (by show n < 24; omega), if_neg Bool.false_ne_true]
    unfold Dat.left
    by_cases hl : n ≤ 9
    · rw [live0_5 ⟨n + 1 - 1, _⟩ hl]
      dsimp only
      unfold Dat.kept
      rw [after0_5]
      have he : n = 9 := by omega
      subst he
      rfl
    · rw [idle0_5 ⟨n + 1 - 1, _⟩ hl]
      exact ih (by omega) hl

/-- What the point leaves in the window's buffer is what its data states. -/
theorem leaves0_5 (c : Dev nD) (t : Fin cfg0.N) (d) :
    owns (c : Thread nD τ) (st0_5 t) fullShare (if t.val ≤ 9 then quantBlock 2000 (by decide) (panels V c t.val) else (dat0 V c).before 5 t d)
      ⊢ ((dat0 V c).leavesExact 5 t : sProp 𝕄) := by
  have hN : t.val < 25 := lt_of_lt_of_eq t.isLt (show cfg0.N = 25 from N_0)
  by_cases h : t.val ≤ 9
  · rw [if_pos h]
    unfold Dat.leavesExact
    rw [live0_5 t h, after0_5, Nat.min_eq_left h]
  · rw [if_neg h]
    unfold Dat.leavesExact
    rw [idle0_5 t h]
    by_cases h24 : t.val < 24
    · rw [kept0_5 t (by omega) h24]
      dsimp only
      iintro H
      iexists d
      iexact H
    · have hfl : (cfg0.win 5).flush t = true := (by decide +kernel : ∀ t : Fin grid0.N, ¬t.val < 24 → win0_5.flush t = true) t h24
      rw [hfl, after0_5, Nat.min_eq_right (by omega), before0_5 V c d t.val t.isLt h]

theorem live0_6 (t : Fin cfg0.N) (ht : t.val ≤ 14) : cfg0.idle 6 (cfg0.grid.coords t) = false := by
  show (!(k0_cond7 (grid0.coords t) == 1#1)) = false
  rw [(cond7_iff _).mpr (by rw [coords0]; exact ht)]; rfl

theorem idle0_6 (t : Fin cfg0.N) (ht : ¬t.val ≤ 14) : cfg0.idle 6 (cfg0.grid.coords t) = true := by
  show (!(k0_cond7 (grid0.coords t) == 1#1)) = true
  rw [Bool.not_eq_true', beq_eq_false_iff_ne]
  exact fun h => ht (by rw [← coords0 t]; exact (cond7_iff _).mp h)

theorem kept0_6 : ∀ t : Fin cfg0.N, 14 ≤ t.val → t.val < 24 → (cfg0.win 6).flush t = false :=
  (by decide +kernel : ∀ t : Fin grid0.N, 14 ≤ t.val → t.val < 24 → win0_6.flush t = false)

/-- Past its last block the window's buffer holds what that block's point left. -/
theorem before0_6 (c : Dev nD) (d) : ∀ (n : ℕ) (h : n < cfg0.N), ¬n ≤ 14 → (dat0 V c).before 6 ⟨n, h⟩ d = quantBlock 4000 (by decide) (panels V c 14) := by
  intro n
  induction n with
  | zero => exact fun _ h => absurd (Nat.zero_le _) h
  | succ n ih =>
    intro h hn
    have hN : n + 1 < 25 := lt_of_lt_of_eq h (show cfg0.N = 25 from N_0)
    rw [(dat0 V c).before_of_pos 6 ⟨n + 1, h⟩ (Nat.succ_ne_zero n) ((cfg0.win 6).fetch_out rfl _),
      kept0_6 ⟨n + 1 - 1, _⟩ (by show 14 ≤ n; omega) (by show n < 24; omega), if_neg Bool.false_ne_true]
    unfold Dat.left
    by_cases hl : n ≤ 14
    · rw [live0_6 ⟨n + 1 - 1, _⟩ hl]
      dsimp only
      unfold Dat.kept
      rw [after0_6]
      have he : n = 14 := by omega
      subst he
      rfl
    · rw [idle0_6 ⟨n + 1 - 1, _⟩ hl]
      exact ih (by omega) hl

/-- What the point leaves in the window's buffer is what its data states. -/
theorem leaves0_6 (c : Dev nD) (t : Fin cfg0.N) (d) :
    owns (c : Thread nD τ) (st0_6 t) fullShare (if t.val ≤ 14 then quantBlock 4000 (by decide) (panels V c t.val) else (dat0 V c).before 6 t d)
      ⊢ ((dat0 V c).leavesExact 6 t : sProp 𝕄) := by
  have hN : t.val < 25 := lt_of_lt_of_eq t.isLt (show cfg0.N = 25 from N_0)
  by_cases h : t.val ≤ 14
  · rw [if_pos h]
    unfold Dat.leavesExact
    rw [live0_6 t h, after0_6, Nat.min_eq_left h]
  · rw [if_neg h]
    unfold Dat.leavesExact
    rw [idle0_6 t h]
    by_cases h24 : t.val < 24
    · rw [kept0_6 t (by omega) h24]
      dsimp only
      iintro H
      iexists d
      iexact H
    · have hfl : (cfg0.win 6).flush t = true := (by decide +kernel : ∀ t : Fin grid0.N, ¬t.val < 24 → win0_6.flush t = true) t h24
      rw [hfl, after0_6, Nat.min_eq_right (by omega), before0_6 V c d t.val t.isLt h]

theorem live0_7 (t : Fin cfg0.N) (ht : t.val ≤ 19) : cfg0.idle 7 (cfg0.grid.coords t) = false := by
  show (!(k0_cond8 (grid0.coords t) == 1#1)) = false
  rw [(cond8_iff _).mpr (by rw [coords0]; exact ht)]; rfl

theorem idle0_7 (t : Fin cfg0.N) (ht : ¬t.val ≤ 19) : cfg0.idle 7 (cfg0.grid.coords t) = true := by
  show (!(k0_cond8 (grid0.coords t) == 1#1)) = true
  rw [Bool.not_eq_true', beq_eq_false_iff_ne]
  exact fun h => ht (by rw [← coords0 t]; exact (cond8_iff _).mp h)

theorem kept0_7 : ∀ t : Fin cfg0.N, 19 ≤ t.val → t.val < 24 → (cfg0.win 7).flush t = false :=
  (by decide +kernel : ∀ t : Fin grid0.N, 19 ≤ t.val → t.val < 24 → win0_7.flush t = false)

/-- Past its last block the window's buffer holds what that block's point left. -/
theorem before0_7 (c : Dev nD) (d) : ∀ (n : ℕ) (h : n < cfg0.N), ¬n ≤ 19 → (dat0 V c).before 7 ⟨n, h⟩ d = quantBlock 6000 (by decide) (panels V c 19) := by
  intro n
  induction n with
  | zero => exact fun _ h => absurd (Nat.zero_le _) h
  | succ n ih =>
    intro h hn
    have hN : n + 1 < 25 := lt_of_lt_of_eq h (show cfg0.N = 25 from N_0)
    rw [(dat0 V c).before_of_pos 7 ⟨n + 1, h⟩ (Nat.succ_ne_zero n) ((cfg0.win 7).fetch_out rfl _),
      kept0_7 ⟨n + 1 - 1, _⟩ (by show 19 ≤ n; omega) (by show n < 24; omega), if_neg Bool.false_ne_true]
    unfold Dat.left
    by_cases hl : n ≤ 19
    · rw [live0_7 ⟨n + 1 - 1, _⟩ hl]
      dsimp only
      unfold Dat.kept
      rw [after0_7]
      have he : n = 19 := by omega
      subst he
      rfl
    · rw [idle0_7 ⟨n + 1 - 1, _⟩ hl]
      exact ih (by omega) hl

/-- What the point leaves in the window's buffer is what its data states. -/
theorem leaves0_7 (c : Dev nD) (t : Fin cfg0.N) (d) :
    owns (c : Thread nD τ) (st0_7 t) fullShare (if t.val ≤ 19 then quantBlock 6000 (by decide) (panels V c t.val) else (dat0 V c).before 7 t d)
      ⊢ ((dat0 V c).leavesExact 7 t : sProp 𝕄) := by
  have hN : t.val < 25 := lt_of_lt_of_eq t.isLt (show cfg0.N = 25 from N_0)
  by_cases h : t.val ≤ 19
  · rw [if_pos h]
    unfold Dat.leavesExact
    rw [live0_7 t h, after0_7, Nat.min_eq_left h]
  · rw [if_neg h]
    unfold Dat.leavesExact
    rw [idle0_7 t h]
    by_cases h24 : t.val < 24
    · rw [kept0_7 t (by omega) h24]
      dsimp only
      iintro H
      iexists d
      iexact H
    · have hfl : (cfg0.win 7).flush t = true := (by decide +kernel : ∀ t : Fin grid0.N, ¬t.val < 24 → win0_7.flush t = true) t h24
      rw [hfl, after0_7, Nat.min_eq_right (by omega), before0_7 V c d t.val t.isLt h]

theorem live0_8 (t : Fin cfg0.N) (ht : t.val ≤ 24) : cfg0.idle 8 (cfg0.grid.coords t) = false := by
  show (!(k0_cond9 (grid0.coords t) == 1#1)) = false
  rw [(cond9_iff _).mpr (by rw [coords0]; exact ht)]; rfl

theorem leaves0_8 (c : Dev nD) (t : Fin cfg0.N) (d) :
    owns (c : Thread nD τ) (st0_8 t) fullShare (if t.val ≤ 24 then quantBlock 8000 (by decide) (panels V c t.val) else (dat0 V c).before 8 t d)
      ⊢ ((dat0 V c).leavesExact 8 t : sProp 𝕄) := by
  have hN : t.val < 25 := lt_of_lt_of_eq t.isLt (show cfg0.N = 25 from N_0)
  have h : t.val ≤ 24 := by omega
  rw [if_pos h]
  unfold Dat.leavesExact
  rw [live0_8 t h, after0_8, Nat.min_eq_left h]

/-- What the body is called with at a point, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def post0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 4000000 in
theorem sound0 (c : Dev nD) (t : Fin cfg0.N) :
    pre0 V c t ⊢ wp frame (wpE (defs₀ (F := F)) Variants.none (c : Thread nD τ) none) Set.univ (bodyAt0 t) (fun _ => post0 V c t) := by
  unfold pre0 post0 bodyAt0
  simp only [before0_0, before0_1]
  rw [show (dat0 V c).owesAt () t.succ = (dat0 V c).owesAt () t.castSucc from rfl,
    show (dat0 V c).Φ t.castSucc = inv0 V c t.val from rfl, show (dat0 V c).Φ t.succ = inv0 V c (t.val + 1) from rfl]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from rfl,
    show (dat0 V c).leavesExact 3 t = owns (c : Thread nD τ) (st0_3 t) fullShare ((dat0 V c).after 3 t) from rfl,
    show (dat0 V c).leavesExact 9 t = owns (c : Thread nD τ) (st0_9 t) fullShare ((dat0 V c).after 9 t) from by unfold Dat.leavesExact; rw [live0_9 t]]
  rw [after0_0, after0_1, after0_2, after0_3, after0_9]
  unfold inv0
  iintro ⟨⟨%g, %st, %hk, HG, HS, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ Set.univ (panels V c t.val) (block0 V c 1 t) ((dat0 V c).before 4 t d4) ((dat0 V c).before 5 t d5) ((dat0 V c).before 6 t d6) ((dat0 V c).before 7 t d7) ((dat0 V c).before 8 t d8) ((dat0 V c).before 9 t d9) g st _)
  rw [coords0]
  have hacc : acc t.val g (block0 V c 1 t) = accAt (panels V c) (vec0 V c) t.val := by
    rw [← acc_eq (panels V c) (vec0 V c) hk]
    unfold acc
    split
    · next h0 =>
      have ht : t = at0 0 := by rw [← at0_val t, h0]
      rw [ht]; rfl
    · rfl
  rw [hacc, panels_val]
  isplitl [H0]; · iexact H0
  isplitl [H1]; · iexact H1
  isplitl [H2]; · iexists _; iexact H2
  isplitl [H3]; · iexists _; iexact H3
  isplitl [H4]; · iexact H4
  isplitl [H5]; · iexact H5
  isplitl [H6]; · iexact H6
  isplitl [H7]; · iexact H7
  isplitl [H8]; · iexact H8
  isplitl [H9]; · iexact H9
  isplitl [HG]; · iexact HG
  isplitl [HS]; · iexact HS
  iintro ⟨H0, H1, H2, H3, H4, H5, H6, H7, H8, H9, HG, HS⟩
  rw [← panels_val]
  isplitl [HG HS Hr Hp]
  · iexists _; iexists _
    isplitr; · ipureintro; exact known_succ (panels V c) (vec0 V c) hk
    isplitl [HG]; · iexact HG
    isplitl [HS]; · iexact HS
    isplitl [Hr]; · iexact Hr
    iexact Hp
  isplitl [Ho]; · iexact Ho
  isplitl [H0]; · iexact H0
  isplitl [H1]; · iexact H1
  isplitl [H2]; · iexact H2
  isplitl [H3]; · iexact H3
  isplitl [H4]; · iapply (leaves0_4 V c t d4); iexact H4
  isplitl [H5]; · iapply (leaves0_5 V c t d5); iexact H5
  isplitl [H6]; · iapply (leaves0_6 V c t d6); iexact H6
  isplitl [H7]; · iapply (leaves0_7 V c t d7); iexact H7
  isplitl [H8]; · iapply (leaves0_8 V c t d8); iexact H8
  have hsum : sums t.val (panels V c t.val) (accAt (panels V c) (vec0 V c) t.val) ((dat0 V c).before 9 t d9) = sumsAt (panels V c) (vec0 V c) t.val := by
    by_cases h5 : t.val % 5 = 0
    · have hs : ∀ s s', sums t.val (panels V c t.val) (accAt (panels V c) (vec0 V c) t.val) s = sums t.val (panels V c t.val) (accAt (panels V c) (vec0 V c) t.val) s' := fun s s' => by
        unfold sums; rw [if_pos h5, if_pos h5]
      cases hn : t.val with
      | zero => rw [hn] at hs; exact hs _ _
      | succ n => rw [hn] at hs; exact hs _ _
    · rw [before0_9 V c t h5]
      cases hn : t.val with
      | zero => rw [hn] at h5; exact absurd rfl h5
      | succ n => rfl
  rw [hsum]
  iexact H9

theorem row0 (t : Fin cfg0.N) : defs₀ (F := F) .tc cfg0.body (cfg0.bodyArgs t (cfg0.slots t)) = bodyAt0 t := by
  unfold defs₀; rw [Defs.onTc_tc]

/-- The body's obligation at every point. -/
theorem body0 (c : Dev nD) : BodyObligation (dat0 V c) (defs₀ (F := F)) Variants.none () Set.univ := fun t => by
  rw [bigSep_W0, bigSep_W0, row0]
  exact triple_restated (sound0 V c t) rfl .rfl fun _ => .rfl

/-- The scoped buffers at anything and the generator's state make the invariant before the first point, -/
theorem enter0 (c : Dev nD) : iprop(Pipeline.scopedRest spec0 c ∗ ∃ r, prngReg c r) ⊢ (dat0 V c).Φ 0 := by
  rw [show (dat0 V c).Φ 0 = inv0 V c 0 from rfl, scopedRest0_eq]
  unfold inv0 others0
  iintro ⟨⟨⟨%g, HG⟩, ⟨%st, HS⟩, Hr⟩, Hp⟩
  iexists g; iexists st
  isplitr; · ipureintro; exact known_zero _ _ _ _
  simp only [owns_whole]
  isplitl [HG]; · iexact HG
  isplitl [HS]; · iexact HS
  isplitl [Hr]; · iexact Hr
  iexact Hp

/-- and the invariant after the last point gives them back. -/
theorem leave0 (c : Dev nD) : (dat0 V c).Φ (Fin.last cfg0.N) ⊢ iprop(Pipeline.scopedRest spec0 c ∗ ∃ r, prngReg c r) := by
  rw [show (dat0 V c).Φ (Fin.last cfg0.N) = inv0 V c cfg0.N from rfl, scopedRest0_eq]
  unfold inv0 others0
  simp only [owns_whole]
  iintro ⟨%g, %st, -, HG, HS, Hr, Hp⟩
  isplitl [HG HS Hr]
  · isplitl [HG]; · iexists g; iexact HG
    isplitl [HS]; · iexists st; iexact HS
    iexact Hr
  iexact Hp

end Cert.KernelIdeal.Two
-- ==== Proof.Ideal.Body1.lean ====
module
public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.VecWindow
public import Idealize.ShloMosaic.Lib.ValueLayout

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem off6_eq (i : grid1.Coords) : k1_off6 i = ![(i 0).val] := by
  have h : ∀ n : Fin 15, (BitVec.ofNat 32 n.val).toNat = n.val := by decide
  unfold k1_off6
  dsimp only
  exact congrArg (fun z => ![z]) (h (i 0))

instance closedOff6 (i : grid1.Coords) : ClosedOff (k1_off6 i) := ⟨![(i 0).val], off6_eq i⟩

theorem word_cond (n : Fin 5) : (k1_cond2 (BitVec.ofNat 32 n.val) = 1#1 ↔ n.val = 0) ∧ (k1_cond3 (BitVec.ofNat 32 n.val) = 1#1 ↔ n.val = 1) ∧ (k1_cond4 (BitVec.ofNat 32 n.val) = 1#1 ↔ n.val = 2) ∧ (k1_cond5 (BitVec.ofNat 32 n.val) = 1#1 ↔ n.val = 3) ∧ (k1_cond6 (BitVec.ofNat 32 n.val) = 1#1 ↔ n.val = 4) :=
  (by decide +kernel : ∀ n : Fin 5, (k1_cond2 (BitVec.ofNat 32 n.val) = 1#1 ↔ n.val = 0) ∧ (k1_cond3 (BitVec.ofNat 32 n.val) = 1#1 ↔ n.val = 1) ∧ (k1_cond4 (BitVec.ofNat 32 n.val) = 1#1 ↔ n.val = 2) ∧ (k1_cond5 (BitVec.ofNat 32 n.val) = 1#1 ↔ n.val = 3) ∧ (k1_cond6 (BitVec.ofNat 32 n.val) = 1#1 ↔ n.val = 4)) n

/-- Two words with the same small number open the accumulator. -/
theorem word_eq (n k : Fin 5) : k1_cond1 (BitVec.ofNat 32 n.val) (BitVec.ofNat 32 k.val) = 1#1 ↔ n = k :=
  (by decide +kernel : ∀ n k : Fin 5, k1_cond1 (BitVec.ofNat 32 n.val) (BitVec.ofNat 32 k.val) = 1#1 ↔ n = k) n k

/-- The two thousand rows of `h` that start at row `2000 * n`. -/
def rowsAt (n : Fin 5) (h : Vec F S10000x128 .bf16) : Vec F S2000x128 .bf16 :=
  VecWindow.window h ![2000 * n.val, 0] S2000x128.size (fun k => (by decide : ∀ (n : Fin 5) (k : Fin 2), (![2000 * n.val, 0] : Fin 2 → ℕ) k + S2000x128.size k ≤ S10000x128.size k) n k)

/-- The `n`-th of the five quantised blocks. -/
def pick (n : Fin 5) (q0 q1 q2 q3 q4 : Vec F S5x400x2000 .i8) : Vec F S5x400x2000 .i8 :=
  match n with
  | 0 => q0
  | 1 => q1
  | 2 => q2
  | 3 => q3
  | 4 => q4

/-- What the second pass holds before it adds: the first pass's partial product where the band's own block is met, and
    the running sum elsewhere. -/
def opened (n k : Fin 5) (p o : Vec F S2000x128 .f32) : Vec F S2000x128 .f32 := if n = k then p else o

section Run
variable (c : Dev nD) (i : grid1.Coords) (arg1 : Memref sig .tc .smem S5x15 .i32) (harg1 : arg1.IsWhole) (arg2 : Memref sig .tc .smem S15 .i32) (harg2 : arg2.IsWhole) (arg3 : Memref sig .tc .smem S15 .i32) (harg3 : arg3.IsWhole) (arg4 : Memref sig .tc .vmem S5x400x2000 .i8) (harg4 : arg4.IsWhole) (arg5 : Memref sig .tc .vmem S5x400x2000 .i8) (harg5 : arg5.IsWhole) (arg6 : Memref sig .tc .vmem S5x400x2000 .i8) (harg6 : arg6.IsWhole) (arg7 : Memref sig .tc .vmem S5x400x2000 .i8) (harg7 : arg7.IsWhole) (arg8 : Memref sig .tc .vmem S5x400x2000 .i8) (harg8 : arg8.IsWhole) (arg9 : Memref sig .tc .vmem S10000x128 .bf16) (harg9 : arg9.IsWhole) (arg10 : Memref sig .tc .vmem S1x1x128 .f32) (harg10 : arg10.IsWhole) (arg11 : Memref sig .tc .vmem S2000x128 .f32) (harg11 : arg11.IsWhole) (arg12 : Memref sig .tc .vmem S2000x128 .f32) (harg12 : arg12.IsWhole)

set_option maxHeartbeats 2000000 in
theorem product_run (E : Set ℕ) (T2 T3 : Vec F S15 .i32) (n k : Fin 5) (hT3 : T3 (ValueIdx.ix1 (i 0)) = BitVec.ofNat 32 n.val) (hT2 : T2 (ValueIdx.ix1 (i 0)) = BitVec.ofNat 32 k.val) (q0 q1 q2 q3 q4 : Vec F S5x400x2000 .i8) (h : Vec F S10000x128 .bf16) (s : Vec F S1x1x128 .f32) (p o : Vec F S2000x128 .f32) (K : PUnit → sProp 𝕄) :
    iprop(owns (c : Thread nD τ) arg2 fullShare T2 ∗ owns (c : Thread nD τ) arg3 fullShare T3
        ∗ owns (c : Thread nD τ) arg4 fullShare q0 ∗ owns (c : Thread nD τ) arg5 fullShare q1 ∗ owns (c : Thread nD τ) arg6 fullShare q2 ∗ owns (c : Thread nD τ) arg7 fullShare q3 ∗ owns (c : Thread nD τ) arg8 fullShare q4
        ∗ owns (c : Thread nD τ) arg9 fullShare h ∗ owns (c : Thread nD τ) arg10 fullShare s ∗ owns (c : Thread nD τ) arg11 fullShare p ∗ owns (c : Thread nD τ) arg12 fullShare o
        ∗ (iprop(owns (c : Thread nD τ) arg2 fullShare T2 ∗ owns (c : Thread nD τ) arg3 fullShare T3
          ∗ owns (c : Thread nD τ) arg4 fullShare q0 ∗ owns (c : Thread nD τ) arg5 fullShare q1 ∗ owns (c : Thread nD τ) arg6 fullShare q2 ∗ owns (c : Thread nD τ) arg7 fullShare q3 ∗ owns (c : Thread nD τ) arg8 fullShare q4
          ∗ owns (c : Thread nD τ) arg9 fullShare h ∗ owns (c : Thread nD τ) arg10 fullShare s ∗ owns (c : Thread nD τ) arg11 fullShare p ∗ owns (c : Thread nD τ) arg12 fullShare (k1_pay2 (rowsAt n h) (pick n q0 q1 q2 q3 q4) (opened n k p o) s)) -∗ K ⟨⟩))
      ⊢ wp frame (wpE (defs₀ (F := F)) Variants.none (c : Thread nD τ) none) E (cc1__p2_kernel i arg1 harg1 arg2 harg2 arg3 harg3 arg4 harg4 arg5 harg5 arg6 harg6 arg7 harg7 arg8 harg8 arg9 harg9 arg10 harg10 arg11 harg11 arg12 harg12) K := by
  simp only [cc1__p2_kernel_eq_skeleton]; unfold cc1__p2_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec
  sl_step
  have hw3 : product_run.sl.r c i arg3 harg3 T3 = BitVec.ofNat 32 n.val := by
    unfold product_run.sl.r
    rw [View.readAt_unit arg3.view _ _ (off6_eq i) (fun a => off6_eq i ▸ k1_off6_inb i a), harg3.read_unread]
    refine (congrArg T3 (funext fun a => Fin.ext ?_)).trans hT3
    match a with
    | 0 => rfl
  have hw2 : product_run.sl.r_1 c i arg2 harg2 T2 = BitVec.ofNat 32 k.val := by
    unfold product_run.sl.r_1
    rw [View.readAt_unit arg2.view _ _ (off6_eq i) (fun a => off6_eq i ▸ k1_off6_inb i a), harg2.read_unread]
    refine (congrArg T2 (funext fun a => Fin.ext ?_)).trans hT2
    match a with
    | 0 => rfl
  iapply Hk
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact harg8.read_unread _
  isplitl [H9]
  · iexists _; isplitr; swap; · iexact H9
    ipureintro
    exact harg9.read_unread _
  isplitl [H10]
  · iexists _; isplitr; swap; · iexact H10
    ipureintro
    exact harg10.read_unread _
  isplitl [H11]
  · iexists _; isplitr; swap; · iexact H11
    ipureintro
    exact harg11.read_unread _
  iexists _; isplitr; swap; · iexact H12
  ipureintro
  rw [hw3, hw2]
  obtain ⟨c2, c3, c4, c5, c6⟩ := word_cond n
  have e1 := word_eq n k
  have hopen : arg12.view.read (Elt F) (if hc : k1_cond1 (BitVec.ofNat 32 n.val) (BitVec.ofNat 32 k.val) = 1#1 then
      arg12.view.writes (Elt F) (harg12.unread o)
        [⟨Rect.unit ![0, 0] S2000x128.size inb_S2000x128_S2000x128_0_0,
            k1_pay1 (View.readAt (Elt F) arg11.view (Rect.unit ![0, 0] S2000x128.size inb_S2000x128_S2000x128_0_0).toLoadRect (harg11.unread p))⟩]
      else harg12.unread o) = opened n k p o := by
    unfold opened
    by_cases h' : n = k
    · rw [dif_pos (e1.mpr h'), if_pos h', View.read_writes_full, View.readAt_full, harg11.read_unread]
      exact shapeCast_self _ _
    · rw [dif_neg (fun hh => h' (e1.mp hh)), if_neg h', harg12.read_unread]
  have hn : n = 0 ∨ n = 1 ∨ n = 2 ∨ n = 3 ∨ n = 4 := (by decide : ∀ n : Fin 5, n = 0 ∨ n = 1 ∨ n = 2 ∨ n = 3 ∨ n = 4) n
  rcases hn with rfl | rfl | rfl | rfl | rfl
  · rw [dif_neg (fun hh => absurd (c6.mp hh) (by decide)), dif_neg (fun hh => absurd (c5.mp hh) (by decide)), dif_neg (fun hh => absurd (c4.mp hh) (by decide)), dif_neg (fun hh => absurd (c3.mp hh) (by decide)), dif_pos (c2.mpr rfl), View.read_writes_full]
    unfold product_run.sl.v29
    rw [hw3, hw2, View.readAt_full, harg4.read_unread, View.readAt_full, hopen, View.readAt_full, harg10.read_unread]
    rw [View.readAt_unit arg9.view _ inb_S10000x128_S2000x128_0_0 rfl inb_S10000x128_S2000x128_0_0, harg9.read_unread]
    rfl
  · rw [dif_neg (fun hh => absurd (c6.mp hh) (by decide)), dif_neg (fun hh => absurd (c5.mp hh) (by decide)), dif_neg (fun hh => absurd (c4.mp hh) (by decide)), dif_pos (c3.mpr rfl), View.read_writes_full]
    unfold product_run.sl.v29_1
    rw [hw3, hw2, View.readAt_full, harg5.read_unread, View.readAt_full, dif_neg (fun hh => absurd (c2.mp hh) (by decide)), hopen, View.readAt_full, harg10.read_unread]
    rw [View.readAt_unit arg9.view _ inb_S10000x128_S2000x128_2000_0 rfl inb_S10000x128_S2000x128_2000_0, harg9.read_unread]
    rfl
  · rw [dif_neg (fun hh => absurd (c6.mp hh) (by decide)), dif_neg (fun hh => absurd (c5.mp hh) (by decide)), dif_pos (c4.mpr rfl), View.read_writes_full]
    unfold product_run.sl.v29_2
    rw [hw3, hw2, View.readAt_full, harg6.read_unread, View.readAt_full, dif_neg (fun hh => absurd (c3.mp hh) (by decide)), dif_neg (fun hh => absurd (c2.mp hh) (by decide)), hopen, View.readAt_full, harg10.read_unread]
    rw [View.readAt_unit arg9.view _ inb_S10000x128_S2000x128_4000_0 rfl inb_S10000x128_S2000x128_4000_0, harg9.read_unread]
    rfl
  · rw [dif_neg (fun hh => absurd (c6.mp hh) (by decide)), dif_pos (c5.mpr rfl), View.read_writes_full]
    unfold product_run.sl.v29_3
    rw [hw3, hw2, View.readAt_full, harg7.read_unread, View.readAt_full, dif_neg (fun hh => absurd (c4.mp hh) (by decide)), dif_neg (fun hh => absurd (c3.mp hh) (by decide)), dif_neg (fun hh => absurd (c2.mp hh) (by decide)), hopen, View.readAt_full, harg10.read_unread]
    rw [View.readAt_unit arg9.view _ inb_S10000x128_S2000x128_6000_0 rfl inb_S10000x128_S2000x128_6000_0, harg9.read_unread]
    rfl
  · rw [dif_pos (c6.mpr rfl), View.read_writes_full]
    unfold product_run.sl.v29_4
    rw [hw3, hw2, View.readAt_full, harg8.read_unread, View.readAt_full, dif_neg (fun hh => absurd (c5.mp hh) (by decide)), dif_neg (fun hh => absurd (c4.mp hh) (by decide)), dif_neg (fun hh => absurd (c3.mp hh) (by decide)), dif_neg (fun hh => absurd (c2.mp hh) (by decide)), hopen, View.readAt_full, harg10.read_unread]
    rw [View.readAt_unit arg9.view _ inb_S10000x128_S2000x128_8000_0 rfl inb_S10000x128_S2000x128_8000_0, harg9.read_unread]
    rfl

end Run
end Cert.KernelIdeal.Two
-- ==== Proof.Ideal.Tables1.lean ====
module
public import proofs.«01_k».proof.Proof.Ideal.Body1
public import Idealize.ShloMosaic.Lib.Affine
public import Idealize.ShloMosaic.Lib.Pipeline.RegionArraysTS

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

/-- The band of rows that a point of the second pass adds to, -/
def bandOf (n : Fin 15) : Fin 5 := ![0, 0, 0, 0, 0, 1, 1, 1, 1, 2, 2, 2, 3, 3, 4] n
/-- the band of columns it multiplies, -/
def stripOf (n : Fin 15) : Fin 5 := ![0, 1, 2, 3, 4, 1, 2, 3, 4, 2, 3, 4, 3, 4, 4] n
/-- and the block of the `b`-th quantised strip that is resident there. -/
def residentOf (b : Fin 5) (n : Fin 15) : Fin 5 :=
  ![![0, 0, 0, 0, 0, 0, 0, 0, 0, 0, 0, 0, 0, 0, 0],
    ![0, 0, 0, 0, 0, 1, 1, 1, 1, 1, 1, 1, 1, 1, 1],
    ![0, 0, 0, 0, 0, 0, 1, 1, 1, 2, 2, 2, 2, 2, 2],
    ![0, 0, 0, 0, 0, 0, 0, 1, 1, 1, 2, 2, 3, 3, 3],
    ![0, 0, 0, 0, 0, 0, 0, 0, 1, 1, 1, 2, 2, 3, 4]] b n

theorem resident_le : ∀ (b : Fin 5) (n : Fin 15), (residentOf b n).val ≤ b.val := by decide +kernel
/-- At the point of a block its strip holds the block of its band. -/
theorem resident_at : ∀ n : Fin 15, residentOf (stripOf n) n = bandOf n := by decide +kernel
theorem band_le : ∀ n : Fin 15, (bandOf n).val ≤ (stripOf n).val := by decide +kernel

theorem lit0_eq : ∀ (b : Fin 5) (n : Fin 15), lit0 (S5x15.rowMajor (ValueIdx.ix2 b n)) = BitVec.ofNat 32 (residentOf b n).val := by decide +kernel
theorem lit1_eq : ∀ n : Fin 15, lit1 (S15.rowMajor (ValueIdx.ix1 n)) = BitVec.ofNat 32 (bandOf n).val := by decide +kernel
theorem lit2_eq : ∀ n : Fin 15, lit2 (S15.rowMajor (ValueIdx.ix1 n)) = BitVec.ofNat 32 (stripOf n).val := by decide +kernel

/-- The three tables the second pass is launched with. -/
def tables : pre1.Contents (Elt F) := fun
  | ⟨0, _⟩ => fun i => lit0 (S5x15.rowMajor i)
  | ⟨1, _⟩ => fun i => lit1 (S15.rowMajor i)
  | ⟨2, _⟩ => fun i => lit2 (S15.rowMajor i)
  | ⟨_ + 3, h⟩ => absurd h (Nat.not_lt.2 (Nat.le_add_left _ _))

theorem coord_word : ∀ n : Fin 15, (Scalar.indexCast (BitVec.ofNat 32 n.val) : Index).toNat = n.val := by decide +kernel
theorem small_word : ∀ n : Fin 5, (BitVec.ofNat 32 n.val).toNat = n.val := by decide +kernel

theorem first_val {s : Shape} (h : 0 < s.numel) (hs : ∀ a, s.size a = 1) (a) : (Shape.Idx.first h a).val = 0 :=
  Nat.lt_one_iff.mp (lt_of_lt_of_eq (Shape.Idx.first h a).isLt (hs a))

theorem tables_word0 (b : Fin 5) (n : Fin 15) (off : Fin 2 → ℕ) (ho : off = ![b.val, n.val]) (inb : ∀ a, off a + S1x1.size a ≤ S5x15.size a)
    (h1 : (Rect.unit (s := S5x15) off S1x1.size inb).shape.numel = 1) :
    (tables (F := F)).at 0 (Rect.unit (s := S5x15) off S1x1.size inb) h1 = BitVec.ofNat 32 (residentOf b n).val := by
  subst ho
  refine Eq.trans ?_ (lit0_eq b n)
  show lit0 (S5x15.rowMajor _) = _
  refine congrArg (fun z : S5x15.Idx => lit0 (S5x15.rowMajor z)) (funext fun a : Fin 2 => Fin.ext ?_)
  have hz := first_val (s := (Rect.unit (s := S5x15) ![b.val, n.val] S1x1.size inb).shape) (h1.symm ▸ Nat.one_pos) (show ∀ a : Fin 2, S1x1.size a = 1 by decide) a
  match a with
  | 0 => exact congrArg (fun z => b.val + 1 * z) hz
  | 1 => exact congrArg (fun z => n.val + 1 * z) hz

theorem tables_word1 (n : Fin 15) (off : Fin 1 → ℕ) (ho : off = ![n.val]) (inb : ∀ a, off a + S1.size a ≤ S15.size a)
    (h1 : (Rect.unit (s := S15) off S1.size inb).shape.numel = 1) :
    (tables (F := F)).at 1 (Rect.unit (s := S15) off S1.size inb) h1 = BitVec.ofNat 32 (bandOf n).val := by
  subst ho
  refine Eq.trans ?_ (lit1_eq n)
  show lit1 (S15.rowMajor _) = _
  refine congrArg (fun z : S15.Idx => lit1 (S15.rowMajor z)) (funext fun a : Fin 1 => Fin.ext ?_)
  have hz := first_val (s := (Rect.unit (s := S15) ![n.val] S1.size inb).shape) (h1.symm ▸ Nat.one_pos) (show ∀ a : Fin 1, S1.size a = 1 by decide) a
  match a with
  | 0 => exact congrArg (fun z => n.val + 1 * z) hz

theorem tables_word2 (n : Fin 15) (off : Fin 1 → ℕ) (ho : off = ![n.val]) (inb : ∀ a, off a + S1.size a ≤ S15.size a)
    (h1 : (Rect.unit (s := S15) off S1.size inb).shape.numel = 1) :
    (tables (F := F)).at 2 (Rect.unit (s := S15) off S1.size inb) h1 = BitVec.ofNat 32 (stripOf n).val := by
  subst ho
  refine Eq.trans ?_ (lit2_eq n)
  show lit2 (S15.rowMajor _) = _
  refine congrArg (fun z : S15.Idx => lit2 (S15.rowMajor z)) (funext fun a : Fin 1 => Fin.ext ?_)
  have hz := first_val (s := (Rect.unit (s := S15) ![n.val] S1.size inb).shape) (h1.symm ▸ Nat.one_pos) (show ∀ a : Fin 1, S1.size a = 1 by decide) a
  match a with
  | 0 => exact congrArg (fun z => n.val + 1 * z) hz

theorem index1_0 (i : grid1.Coords) : cc1_transform_0 k1_off1_inb numel1_S1x1 (tables (F := F)) i = ![(residentOf 0 (i 0)).val, 0, 0] := by
  have hw := tables_word0 (F := F) 0 (i 0) ![0, (Scalar.indexCast (BitVec.ofNat 32 (i 0).val) : Index).toNat] (by rw [coord_word (i 0)]; rfl) (k1_off1_inb i) numel1_S1x1
  unfold cc1_transform_0
  dsimp only
  rw [hw, small_word]
  rfl

theorem index1_1 (i : grid1.Coords) : cc1_transform_1 k1_off2_inb numel1_S1x1 (tables (F := F)) i = ![(residentOf 1 (i 0)).val, 0, 0] := by
  have hw := tables_word0 (F := F) 1 (i 0) ![1, (Scalar.indexCast (BitVec.ofNat 32 (i 0).val) : Index).toNat] (by rw [coord_word (i 0)]; rfl) (k1_off2_inb i) numel1_S1x1
  unfold cc1_transform_1
  dsimp only
  rw [hw, small_word]
  rfl

theorem index1_2 (i : grid1.Coords) : cc1_transform_2 k1_off3_inb numel1_S1x1 (tables (F := F)) i = ![(residentOf 2 (i 0)).val, 0, 0] := by
  have hw := tables_word0 (F := F) 2 (i 0) ![2, (Scalar.indexCast (BitVec.ofNat 32 (i 0).val) : Index).toNat] (by rw [coord_word (i 0)]; rfl) (k1_off3_inb i) numel1_S1x1
  unfold cc1_transform_2
  dsimp only
  rw [hw, small_word]
  rfl

theorem index1_3 (i : grid1.Coords) : cc1_transform_3 k1_off4_inb numel1_S1x1 (tables (F := F)) i = ![(residentOf 3 (i 0)).val, 0, 0] := by
  have hw := tables_word0 (F := F) 3 (i 0) ![3, (Scalar.indexCast (BitVec.ofNat 32 (i 0).val) : Index).toNat] (by rw [coord_word (i 0)]; rfl) (k1_off4_inb i) numel1_S1x1
  unfold cc1_transform_3
  dsimp only
  rw [hw, small_word]
  rfl

theorem index1_4 (i : grid1.Coords) : cc1_transform_4 k1_off5_inb numel1_S1x1 (tables (F := F)) i = ![(residentOf 4 (i 0)).val, 0, 0] := by
  have hw := tables_word0 (F := F) 4 (i 0) ![4, (Scalar.indexCast (BitVec.ofNat 32 (i 0).val) : Index).toNat] (by rw [coord_word (i 0)]; rfl) (k1_off5_inb i) numel1_S1x1
  unfold cc1_transform_4
  dsimp only
  rw [hw, small_word]
  rfl

theorem index1_6 (i : grid1.Coords) : cc1_transform_6 k1_off6_inb numel1_S1 (tables (F := F)) i = ![(stripOf (i 0)).val, 0, 0] := by
  have hw := tables_word2 (F := F) (i 0) ![(Scalar.indexCast (BitVec.ofNat 32 (i 0).val) : Index).toNat] (by rw [coord_word (i 0)]) (k1_off6_inb i) numel1_S1
  unfold cc1_transform_6
  dsimp only
  rw [hw, small_word]
  rfl

theorem index1_7 (i : grid1.Coords) : cc1_transform_7 k1_off6_inb numel1_S1 (tables (F := F)) i = ![(bandOf (i 0)).val, 0] := by
  have hw := tables_word1 (F := F) (i 0) ![(Scalar.indexCast (BitVec.ofNat 32 (i 0).val) : Index).toNat] (by rw [coord_word (i 0)]) (k1_off6_inb i) numel1_S1
  unfold cc1_transform_7
  dsimp only
  rw [hw, small_word]
  rfl

theorem index1_8 (i : grid1.Coords) : cc1_transform_8 k1_off6_inb numel1_S1 (tables (F := F)) i = ![(bandOf (i 0)).val, 0] := by
  have hw := tables_word1 (F := F) (i 0) ![(Scalar.indexCast (BitVec.ofNat 32 (i 0).val) : Index).toNat] (by rw [coord_word (i 0)]) (k1_off6_inb i) numel1_S1
  unfold cc1_transform_8
  dsimp only
  rw [hw, small_word]
  rfl

/-- Every block the tables name lies inside its array. -/
theorem tables_ok : ok1 (tables (F := F)) := by
  unfold ok1
  exact ⟨fun i => ⟨fun a => by
      rw [index1_0]
      exact (by decide +kernel : ∀ (n : Fin 15) (a : Fin 3), ((![(residentOf 0 n).val, 0, 0] : Fin 3 → ℕ) a + 1) * S5x400x2000.size a ≤ S5x400x2000.size a) (i 0) a,
      .inr (Affine.block_words_dvd (by decide) (by decide))⟩,
    fun i => ⟨fun a => by
      rw [index1_1]
      exact (by decide +kernel : ∀ (n : Fin 15) (a : Fin 3), ((![(residentOf 1 n).val, 0, 0] : Fin 3 → ℕ) a + 1) * S5x400x2000.size a ≤ S10x400x2000.size a) (i 0) a,
      .inr (Affine.block_words_dvd (by decide) (by decide))⟩,
    fun i => ⟨fun a => by
      rw [index1_2]
      exact (by decide +kernel : ∀ (n : Fin 15) (a : Fin 3), ((![(residentOf 2 n).val, 0, 0] : Fin 3 → ℕ) a + 1) * S5x400x2000.size a ≤ S15x400x2000.size a) (i 0) a,
      .inr (Affine.block_words_dvd (by decide) (by decide))⟩,
    fun i => ⟨fun a => by
      rw [index1_3]
      exact (by decide +kernel : ∀ (n : Fin 15) (a : Fin 3), ((![(residentOf 3 n).val, 0, 0] : Fin 3 → ℕ) a + 1) * S5x400x2000.size a ≤ S20x400x2000.size a) (i 0) a,
      .inr (Affine.block_words_dvd (by decide) (by decide))⟩,
    fun i => ⟨fun a => by
      rw [index1_4]
      exact (by decide +kernel : ∀ (n : Fin 15) (a : Fin 3), ((![(residentOf 4 n).val, 0, 0] : Fin 3 → ℕ) a + 1) * S5x400x2000.size a ≤ S25x400x2000.size a) (i 0) a,
      .inr (Affine.block_words_dvd (by decide) (by decide))⟩,
    fun i => ⟨fun a => by
      rw [index1_6]
      exact (by decide +kernel : ∀ (n : Fin 15) (a : Fin 3), ((![(stripOf n).val, 0, 0] : Fin 3 → ℕ) a + 1) * S1x1x128.size a ≤ S5x1x128.size a) (i 0) a, .inl rfl⟩,
    fun i => ⟨fun a => by
      rw [index1_7]
      exact (by decide +kernel : ∀ (n : Fin 15) (a : Fin 2), ((![(bandOf n).val, 0] : Fin 2 → ℕ) a + 1) * S2000x128.size a ≤ S10000x128.size a) (i 0) a, .inl rfl⟩,
    fun i => ⟨fun a => by
      rw [index1_8]
      exact (by decide +kernel : ∀ (n : Fin 15) (a : Fin 2), ((![(bandOf n).val, 0] : Fin 2 → ℕ) a + 1) * S2000x128.size a ≤ S10000x128.size a) (i 0) a, .inl rfl⟩⟩

/-- The second pass's configuration is taken at these tables. -/
abbrev adm1 : (pcfg1 (F := F)).Adm := ⟨tables, tables_ok⟩

abbrev run1 : Pipeline.Cfg sig Λ₀ := cfg1 (adm1 (F := F))

/-- The coordinate of a point is its number. -/
theorem coords1 (t : Fin grid1.N) : ((grid1.coords t) 0).val = t.val :=
  (by decide +kernel : ∀ t : Fin grid1.N, ((grid1.coords t) 0).val = t.val) t

end Cert.KernelIdeal.Two
-- ==== Proof.Ideal.Region1.lean ====
module
public import proofs.«01_k».proof.Proof.Ideal.Tables1
public import Idealize.ShloMosaic.Lib.Pipeline.RegionArraysTS

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F] [Named F]

local notation "𝕄" => MT nD τ sig Unit (Elt F) ℕ (UR sig nD τ) ℕ

variable (V : Dev nD → Valuation τ sig (Elt F))

/-- A window's block at a point, read off its array as the second pass finds it. -/
def block1 (c : Dev nD) (w : Fin (run1 (F := F)).W) (t : Fin (run1 (F := F)).N) : (((run1 (F := F)).win w).xblock ((run1 (F := F)).grid.coords t)).Idx → Elt F ((run1 (F := F)).win w).elt :=
  (((run1 (F := F)).win w).blk t).view.read (Elt F) (V c (Proc.devRef .tc (Pipeline.arrRef spec1 w)))

/-- The number of a point, as one of fifteen. -/
def num1 (t : Fin (run1 (F := F)).N) : Fin 15 := t.cast N_1

/-- The point with number `n`, read round the grid. -/
def at1 (n : ℕ) : Fin (run1 (F := F)).N := ⟨n % 15, by have h : (run1 (F := F)).N = 15 := N_1; rw [h]; exact Nat.mod_lt _ (by decide)⟩

theorem at1_val (t : Fin (run1 (F := F)).N) : at1 t.val = t :=
  Fin.ext (Nat.mod_eq_of_lt (lt_of_lt_of_eq t.isLt (show (run1 (F := F)).N = 15 from N_1)))

/-- One point's work: the running sum `o` opened where a band starts, and the product of the resident block added. -/
def step1 (c : Dev nD) (t : Fin (run1 (F := F)).N) (o : Vec F S2000x128 .f32) : Vec F S2000x128 .f32 :=
  k1_pay2 (rowsAt (stripOf (num1 t)) (block1 V c 5 t)) (pick (stripOf (num1 t)) (block1 V c 0 t) (block1 V c 1 t) (block1 V c 2 t) (block1 V c 3 t) (block1 V c 4 t))
    (opened (stripOf (num1 t)) (bandOf (num1 t)) (block1 V c 7 t) o) (block1 V c 6 t)

/-- The running sum after each point. -/
def total1 (c : Dev nD) : ℕ → Vec F S2000x128 .f32
  | 0 => step1 V c (at1 0) (block1 V c 7 (at1 0))
  | n + 1 => step1 V c (at1 (n + 1)) (total1 c n)

/-- The second pass's invariant: the buffers of the first pass at anything, the generator's state, and the tables. -/
def inv1 (c : Dev nD) : sProp 𝕄 :=
  iprop((Pipeline.scopedRest spec1 c ∗ ∃ r, prngReg c r) ∗ Pipeline.prefHeld pre1 c (fun _ => fullShare) (tables (F := F)))

/-- The second pass's proof data. -/
def dat1 (c : Dev nD) : Dat τ (Elt F) Unit ℕ (UR sig nD τ) ℕ (run1 (F := F)) c where
  A w := V c (Proc.devRef .tc (Pipeline.arrRef spec1 w))
  after w t := match w with
    | ⟨0, _⟩ => block1 V c 0 t
    | ⟨1, _⟩ => block1 V c 1 t
    | ⟨2, _⟩ => block1 V c 2 t
    | ⟨3, _⟩ => block1 V c 3 t
    | ⟨4, _⟩ => block1 V c 4 t
    | ⟨5, _⟩ => block1 V c 5 t
    | ⟨6, _⟩ => block1 V c 6 t
    | ⟨7, _⟩ => block1 V c 7 t
    | ⟨8, _⟩ => total1 V c t.val
  Φ _ := inv1 c
  q _ := fullShare
  owed _ := 0

theorem array1 (c : Dev nD) (w : Fin (run1 (F := F)).W) : (dat1 V c).A w = V c (Proc.devRef .tc (Pipeline.arrRef spec1 w)) := by
  dsimp only [dat1]

theorem after1_0 (c : Dev nD) (t : Fin (run1 (F := F)).N) : (dat1 V c).after 0 t = block1 V c 0 t := by dsimp only [dat1] <;> rfl
theorem after1_1 (c : Dev nD) (t : Fin (run1 (F := F)).N) : (dat1 V c).after 1 t = block1 V c 1 t := by dsimp only [dat1] <;> rfl
theorem after1_2 (c : Dev nD) (t : Fin (run1 (F := F)).N) : (dat1 V c).after 2 t = block1 V c 2 t := by dsimp only [dat1] <;> rfl
theorem after1_3 (c : Dev nD) (t : Fin (run1 (F := F)).N) : (dat1 V c).after 3 t = block1 V c 3 t := by dsimp only [dat1] <;> rfl
theorem after1_4 (c : Dev nD) (t : Fin (run1 (F := F)).N) : (dat1 V c).after 4 t = block1 V c 4 t := by dsimp only [dat1] <;> rfl
theorem after1_5 (c : Dev nD) (t : Fin (run1 (F := F)).N) : (dat1 V c).after 5 t = block1 V c 5 t := by dsimp only [dat1] <;> rfl
theorem after1_6 (c : Dev nD) (t : Fin (run1 (F := F)).N) : (dat1 V c).after 6 t = block1 V c 6 t := by dsimp only [dat1] <;> rfl
theorem after1_7 (c : Dev nD) (t : Fin (run1 (F := F)).N) : (dat1 V c).after 7 t = block1 V c 7 t := by dsimp only [dat1] <;> rfl
theorem after1_8 (c : Dev nD) (t : Fin (run1 (F := F)).N) : (dat1 V c).after 8 t = total1 V c t.val := by dsimp only [dat1] <;> rfl

theorem before1_0 (c : Dev nD) (t : Fin (run1 (F := F)).N) (d) : (dat1 V c).before 0 t d = block1 V c 0 t :=
  ((dat1 V c).before_in_eq_fetched 0 rfl (fun _ => rfl) (fun _ _ _ => rfl) (fun t => by rw [after1_0]; unfold Dat.blockOf block1; rw [array1]; try rfl) t d).trans
    (by unfold Dat.fetched Dat.blockOf block1; rw [array1]; try rfl)

theorem before1_1 (c : Dev nD) (t : Fin (run1 (F := F)).N) (d) : (dat1 V c).before 1 t d = block1 V c 1 t :=
  ((dat1 V c).before_in_eq_fetched 1 rfl (fun _ => rfl) (fun _ _ _ => rfl) (fun t => by rw [after1_1]; unfold Dat.blockOf block1; rw [array1]; try rfl) t d).trans
    (by unfold Dat.fetched Dat.blockOf block1; rw [array1]; try rfl)

theorem before1_2 (c : Dev nD) (t : Fin (run1 (F := F)).N) (d) : (dat1 V c).before 2 t d = block1 V c 2 t :=
  ((dat1 V c).before_in_eq_fetched 2 rfl (fun _ => rfl) (fun _ _ _ => rfl) (fun t => by rw [after1_2]; unfold Dat.blockOf block1; rw [array1]; try rfl) t d).trans
    (by unfold Dat.fetched Dat.blockOf block1; rw [array1]; try rfl)

theorem before1_3 (c : Dev nD) (t : Fin (run1 (F := F)).N) (d) : (dat1 V c).before 3 t d = block1 V c 3 t :=
  ((dat1 V c).before_in_eq_fetched 3 rfl (fun _ => rfl) (fun _ _ _ => rfl) (fun t => by rw [after1_3]; unfold Dat.blockOf block1; rw [array1]; try rfl) t d).trans
    (by unfold Dat.fetched Dat.blockOf block1; rw [array1]; try rfl)

theorem before1_4 (c : Dev nD) (t : Fin (run1 (F := F)).N) (d) : (dat1 V c).before 4 t d = block1 V c 4 t :=
  ((dat1 V c).before_in_eq_fetched 4 rfl (fun _ => rfl) (fun _ _ _ => rfl) (fun t => by rw [after1_4]; unfold Dat.blockOf block1; rw [array1]; try rfl) t d).trans
    (by unfold Dat.fetched Dat.blockOf block1; rw [array1]; try rfl)

theorem before1_5 (c : Dev nD) (t : Fin (run1 (F := F)).N) (d) : (dat1 V c).before 5 t d = block1 V c 5 t :=
  ((dat1 V c).before_in_eq_fetched 5 rfl (fun _ => rfl) (fun _ _ _ => rfl) (fun t => by rw [after1_5]; unfold Dat.blockOf block1; rw [array1]; try rfl) t d).trans
    (by unfold Dat.fetched Dat.blockOf block1; rw [array1]; try rfl)

theorem before1_6 (c : Dev nD) (t : Fin (run1 (F := F)).N) (d) : (dat1 V c).before 6 t d = block1 V c 6 t :=
  ((dat1 V c).before_in_eq_fetched 6 rfl (fun _ => rfl) (fun _ _ _ => rfl) (fun t => by rw [after1_6]; unfold Dat.blockOf block1; rw [array1]; try rfl) t d).trans
    (by unfold Dat.fetched Dat.blockOf block1; rw [array1]; try rfl)

theorem before1_7 (c : Dev nD) (t : Fin (run1 (F := F)).N) (d) : (dat1 V c).before 7 t d = block1 V c 7 t :=
  ((dat1 V c).before_in_eq_fetched 7 rfl (fun _ => rfl) (fun _ _ _ => rfl) (fun t => by rw [after1_7]; unfold Dat.blockOf block1; rw [array1]; try rfl) t d).trans
    (by unfold Dat.fetched Dat.blockOf block1; rw [array1]; try rfl)

theorem table2_at (i : grid1.Coords) : (tables (F := F)).atD 2 (k1_off6 i) = BitVec.ofNat 32 (stripOf (i 0)).val := by
  have hi : ∀ a : Fin 1, k1_off6 i a + 1 ≤ S15.size a := fun a => by
    rw [off6_eq]
    match a with
    | 0 => exact (i 0).isLt
  refine (dif_pos hi).trans (Eq.trans ?_ (lit2_eq (i 0)))
  show lit2 (S15.rowMajor _) = _
  refine congrArg (fun z : S15.Idx => lit2 (S15.rowMajor z)) (funext fun a : Fin 1 => Fin.ext ?_)
  match a with
  | 0 => exact congrFun (off6_eq i) 0

/-- Every point stores the running sum. -/
theorem live1_8 (t : Fin (run1 (F := F)).N) : (run1 (F := F)).idle 8 ((run1 (F := F)).grid.coords t) = false := by
  show idle1 (tables (F := F)) 8 (grid1.coords t) = false
  show (!(k1_cond1 ((tables (F := F)).atD 2 (k1_off6 (grid1.coords t))) ((tables (F := F)).atD 1 (k1_off6 (grid1.coords t))) == 1#1) && !(k1_cond2 ((tables (F := F)).atD 2 (k1_off6 (grid1.coords t))) == 1#1)
    && !(k1_cond3 ((tables (F := F)).atD 2 (k1_off6 (grid1.coords t))) == 1#1) && !(k1_cond4 ((tables (F := F)).atD 2 (k1_off6 (grid1.coords t))) == 1#1)
    && !(k1_cond5 ((tables (F := F)).atD 2 (k1_off6 (grid1.coords t))) == 1#1) && !(k1_cond6 ((tables (F := F)).atD 2 (k1_off6 (grid1.coords t))) == 1#1)) = false
  rw [table2_at]
  obtain ⟨c2, c3, c4, c5, c6⟩ := word_cond (stripOf ((grid1.coords t) 0))
  have hn : ∀ n : Fin 5, n.val = 0 ∨ n.val = 1 ∨ n.val = 2 ∨ n.val = 3 ∨ n.val = 4 := by decide
  rcases hn (stripOf ((grid1.coords t) 0)) with h | h | h | h | h
  · rw [c2.mpr h]; simp
  · rw [c3.mpr h]; simp
  · rw [c4.mpr h]; simp
  · rw [c5.mpr h]; simp
  · rw [c6.mpr h]; simp

theorem num1_coord (t : Fin (run1 (F := F)).N) : (grid1.coords t) 0 = num1 t := Fin.ext (coords1 t)

/-- Within a band the sum is not written back. -/
theorem kept1_8 (t : Fin (run1 (F := F)).N) (h : t.val + 1 < 15) (hb : bandOf (num1 t) = bandOf ⟨t.val + 1, h⟩) : ((run1 (F := F)).win 8).flush t = false := by
  have hN : grid1.N = 15 := N_1
  unfold Pipeline.Window.flush
  rw [Bool.and_eq_false_iff]
  right
  rw [Bool.or_eq_false_iff]
  refine ⟨decide_eq_false (by show ¬t.val + 1 = grid1.N; omega), decide_eq_false ?_⟩
  rintro ⟨h', hne⟩
  refine hne ?_
  show cc1_transform_8 k1_off6_inb numel1_S1 (tables (F := F)) (grid1.coords ⟨t.val + 1, h'⟩) = cc1_transform_8 k1_off6_inb numel1_S1 (tables (F := F)) (grid1.coords t)
  rw [index1_8, index1_8, num1_coord t, hb]
  rw [show (grid1.coords ⟨t.val + 1, h'⟩) 0 = (⟨t.val + 1, h⟩ : Fin 15) from Fin.ext (coords1 ⟨t.val + 1, h'⟩)]

theorem band_step : ∀ n : Fin 15, ¬stripOf n = bandOf n → n.val ≠ 0 ∧ bandOf ⟨n.val - 1, by omega⟩ = bandOf n := by decide +kernel

theorem before1_8 (c : Dev nD) (t : Fin (run1 (F := F)).N) (hb : ¬stripOf (num1 t) = bandOf (num1 t)) (d) :
    t.val ≠ 0 ∧ (dat1 V c).before 8 t d = total1 V c (t.val - 1) := by
  have hN : t.val < 15 := lt_of_lt_of_eq t.isLt (show (run1 (F := F)).N = 15 from N_1)
  obtain ⟨h0, h1⟩ := band_step (num1 t) hb
  have h0 : t.val ≠ 0 := h0
  refine ⟨h0, ?_⟩
  rw [(dat1 V c).before_of_pos 8 t h0 (((run1 (F := F)).win 8).fetch_out rfl t),
    kept1_8 ⟨t.val - 1, _⟩ (by show t.val - 1 + 1 < 15; omega) (h1.trans (congrArg bandOf (Fin.ext (by show t.val = t.val - 1 + 1; omega)))), if_neg Bool.false_ne_true]
  unfold Dat.left
  rw [live1_8]
  dsimp only
  unfold Dat.kept
  rw [after1_8]
  rfl

/-- The staging buffers a point is called with. -/
abbrev st1_0 (t : Fin (run1 (F := F)).N) := ((run1 (F := F)).win 0).stage ((run1 (F := F)).slots t 0)
abbrev st1_1 (t : Fin (run1 (F := F)).N) := ((run1 (F := F)).win 1).stage ((run1 (F := F)).slots t 1)
abbrev st1_2 (t : Fin (run1 (F := F)).N) := ((run1 (F := F)).win 2).stage ((run1 (F := F)).slots t 2)
abbrev st1_3 (t : Fin (run1 (F := F)).N) := ((run1 (F := F)).win 3).stage ((run1 (F := F)).slots t 3)
abbrev st1_4 (t : Fin (run1 (F := F)).N) := ((run1 (F := F)).win 4).stage ((run1 (F := F)).slots t 4)
abbrev st1_5 (t : Fin (run1 (F := F)).N) := ((run1 (F := F)).win 5).stage ((run1 (F := F)).slots t 5)
abbrev st1_6 (t : Fin (run1 (F := F)).N) := ((run1 (F := F)).win 6).stage ((run1 (F := F)).slots t 6)
abbrev st1_7 (t : Fin (run1 (F := F)).N) := ((run1 (F := F)).win 7).stage ((run1 (F := F)).slots t 7)
abbrev st1_8 (t : Fin (run1 (F := F)).N) := ((run1 (F := F)).win 8).stage ((run1 (F := F)).slots t 8)

/-- The second pass's body at a point. -/
abbrev bodyAt1 (t : Fin (run1 (F := F)).N) : Prog (TpuEff nD τ sig (Elt F) Λ₀ .tc) PUnit :=
  cc1__p2_kernel (grid1.coords t) (Memref.whole main_call0_c) (Memref.isWhole_whole _) (Memref.whole main_call0_c_0) (Memref.isWhole_whole _) (Memref.whole main_call0_c_1) (Memref.isWhole_whole _)
    (spec1_0.stage ((run1 (F := F)).slots t 0)) (hstage1_0 (((run1 (F := F)).slots t 0).cast nbuf1_0))
    (spec1_1.stage ((run1 (F := F)).slots t 1)) (hstage1_1 (((run1 (F := F)).slots t 1).cast nbuf1_1))
    (spec1_2.stage ((run1 (F := F)).slots t 2)) (hstage1_2 (((run1 (F := F)).slots t 2).cast nbuf1_2))
    (spec1_3.stage ((run1 (F := F)).slots t 3)) (hstage1_3 (((run1 (F := F)).slots t 3).cast nbuf1_3))
    (spec1_4.stage ((run1 (F := F)).slots t 4)) (hstage1_4 (((run1 (F := F)).slots t 4).cast nbuf1_4))
    (spec1_5.stage ((run1 (F := F)).slots t 5)) (hstage1_5 (((run1 (F := F)).slots t 5).cast nbuf1_5))
    (spec1_6.stage ((run1 (F := F)).slots t 6)) (hstage1_6 (((run1 (F := F)).slots t 6).cast nbuf1_6))
    (spec1_7.stage ((run1 (F := F)).slots t 7)) (hstage1_7 (((run1 (F := F)).slots t 7).cast nbuf1_7))
    (spec1_8.stage ((run1 (F := F)).slots t 8)) (hstage1_8 (((run1 (F := F)).slots t 8).cast nbuf1_8))

def pre1' (c : Dev nD) (t : Fin (run1 (F := F)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def post1' (c : Dev nD) (t : Fin (run1 (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

/-- The tables one by one. -/
theorem tables_held (c : Dev nD) : (Pipeline.prefHeld pre1 c (fun _ => fullShare) (tables (F := F)) : sProp 𝕄)
    = iprop((((c : Thread nD τ).loc main_call0_c) ↦{fullShare} tables (F := F) 0) ∗ owns (c : Thread nD τ) (Memref.whole main_call0_c_0) fullShare (tables (F := F) 1) ∗ owns (c : Thread nD τ) (Memref.whole main_call0_c_1) fullShare (tables (F := F) 2)) := by
  rw [owns_whole (c : Thread nD τ) main_call0_c_0 fullShare (tables (F := F) 1), owns_whole (c : Thread nD τ) main_call0_c_1 fullShare (tables (F := F) 2)]
  unfold Pipeline.prefHeld
  exact bigSep_univ_eq_bigSepL [(0 : Fin 3), (1 : Fin 3), (2 : Fin 3)] (by decide) (by decide) _

set_option maxHeartbeats 4000000 in
theorem sound1 (c : Dev nD) (t : Fin (run1 (F := F)).N) :
    pre1' V c t ⊢ wp frame (wpE (defs₀ (F := F)) Variants.none (c : Thread nD τ) none) Set.univ (bodyAt1 t) (fun _ => post1' V c t) := by
  unfold pre1' post1' bodyAt1
  simp only [before1_0, before1_1, before1_2, before1_3, before1_4, before1_5, before1_6, before1_7]
  rw [show (dat1 V c).owesAt () t.succ = (dat1 V c).owesAt () t.castSucc from rfl,
    show (dat1 V c).Φ t.castSucc = inv1 c from rfl, show (dat1 V c).Φ t.succ = inv1 c from rfl]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    show (dat1 V c).leavesExact 4 t = owns (c : Thread nD τ) (st1_4 t) fullShare ((dat1 V c).after 4 t) from rfl,
    show (dat1 V c).leavesExact 5 t = owns (c : Thread nD τ) (st1_5 t) fullShare ((dat1 V c).after 5 t) from rfl,
    show (dat1 V c).leavesExact 6 t = owns (c : Thread nD τ) (st1_6 t) fullShare ((dat1 V c).after 6 t) from rfl,
    show (dat1 V c).leavesExact 7 t = owns (c : Thread nD τ) (st1_7 t) fullShare ((dat1 V c).after 7 t) from rfl,
    show (dat1 V c).leavesExact 8 t = owns (c : Thread nD τ) (st1_8 t) fullShare ((dat1 V c).after 8 t) from by unfold Dat.leavesExact; rw [live1_8 t]]
  rw [after1_0, after1_1, after1_2, after1_3, after1_4, after1_5, after1_6, after1_7, after1_8]
  unfold inv1
  rw [tables_held]
  iintro ⟨⟨Hr, T0, T1, T2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hsum : step1 V c t ((dat1 V c).before 8 t d8) = total1 V c t.val := by
    by_cases hb : stripOf (num1 t) = bandOf (num1 t)
    · have hs : ∀ o o', step1 V c t o = step1 V c t o' := fun o o' => by
        unfold step1
        exact congrArg (fun z : Vec F S2000x128 .f32 => k1_pay2 _ _ z _) ((if_pos hb).trans (if_pos hb).symm)
      rw [show total1 V c t.val = step1 V c t (match t.val with | 0 => block1 V c 7 (at1 0) | n + 1 => total1 V c n) from by
        have ht := at1_val t
        cases hn : t.val with
        | zero => rw [hn] at ht; rw [← ht]; rfl
        | succ n => rw [hn] at ht; rw [← ht]; rfl]
      exact hs _ _
    · obtain ⟨h0, h1⟩ := before1_8 V c t hb d8
      rw [h1]
      have ht := at1_val t
      cases hn : t.val with
      | zero => exact absurd hn h0
      | succ n => rw [hn] at ht; rw [← ht]; rfl
  iapply (product_run c (grid1.coords t) _ _ _ _ _ _ _ _ _ _ _ _ _ _ _ _ _ _ _ _ _ _ _ _ Set.univ (tables (F := F) 1) (tables (F := F) 2) (stripOf (num1 t)) (bandOf (num1 t))
    (by rw [num1_coord]; exact lit2_eq (num1 t)) (by rw [num1_coord]; exact lit1_eq (num1 t))
    (block1 V c 0 t) (block1 V c 1 t) (block1 V c 2 t) (block1 V c 3 t) (block1 V c 4 t) (block1 V c 5 t) (block1 V c 6 t) (block1 V c 7 t) ((dat1 V c).before 8 t d8) _)
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨T1, T2, H0, H1, H2, H3, H4, H5, H6, H7, H8⟩
  isplitl [Hr T0 T1 T2]
  · isplitl [Hr]; · iexact Hr
    isplitl [T0]; · iexact T0
    isplitl [T1]; · iexact T1
    iexact T2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [← hsum]
  iexact H8

theorem row1 (t : Fin (run1 (F := F)).N) : defs₀ (F := F) .tc (run1 (F := F)).body ((run1 (F := F)).bodyArgs t ((run1 (F := F)).slots t)) = bodyAt1 t := by
  unfold defs₀; rw [Defs.onTc_tc]

/-- The body's obligation at every point. -/
theorem body1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Two
-- ==== Proof.Ideal.Run.lean ====
module
public import proofs.«01_k».proof.Proof.Ideal.Region0
public import proofs.«01_k».proof.Proof.Ideal.Region1
public import proofs.«01_k».proof.Proof.Gen.KernelIdeal.Regions

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose)

variable {F : FTy → Type} [FloatOps F] [Named F]

local notation "𝕄" => MT nD τ sig Unit (Elt F) ℕ (UR sig nD τ) ℕ

/-- The tables each pass reads: none in the first, the three constant ones in the second. -/
def adm : (p : Fin 2) → (pcfgs (F := F) p).Adm := fun
  | ⟨0, _⟩ => cfg0.toPCfg_adm
  | ⟨1, _⟩ => adm1

variable (m : (ℓ : Loc nD τ sig) → Buf (Elt F) ℓ) (ρ : Dev nD → PrngReg)

/-- What every buffer holds after the first pass. -/
def W2 (c : Dev nD) : Valuation τ sig (Elt F) := Pipeline.afterRegion (dat0 (V1 m) c) (V1 m c)

/-- What every buffer holds after the second pass. -/
def W3 (c : Dev nD) : Valuation τ sig (Elt F) := Pipeline.afterRegion (dat1 (W2 m) c) (W2 m c)

/-- The two passes' data. -/
def pdats : (p : Fin 2) → (c : Dev nD) → Dat τ (Elt F) Unit ℕ (UR sig nD τ) ℕ (Pipeline.pin (pcfgs (F := F)) adm p) c := fun
  | ⟨0, _⟩ => fun c => dat0 (V1 m) c
  | ⟨1, _⟩ => fun c => dat1 (W2 m) c

/-- The waits of the staging buffers have a level on the tensor cores. -/
def levels : GSem nD τ sig → Finset Unit := fun g => if g.1.2 = .tc then {()} else ∅

/-- Every level is zero. -/
def level : GSem nD τ sig → Unit → ℕ := fun _ _ => 0

theorem levels_off : ∀ g : GSem nD τ sig, g.1.2 ≠ .tc → levels g = ∅ := fun g h => if_neg h

theorem cut (p : Fin 2) : Pipeline.LevelCut (pcfgs (F := F)) adm () levels level p (fun _ => 0) (fun _ => 0) where
  hι c w s := by
    show () ∈ (if _ then _ else _)
    rw [if_pos rfl]; exact Finset.mem_singleton_self _
  hιb _ _ _ := Nat.le_refl _
  hD c g i h := absurd h (Nat.lt_irrefl 0)

/-- The first pass, from what the buffers hold when it starts. -/
def pass0 : RegionSeg (pcfgs (F := F)) adm (pdats m) () defs₀ Variants.none levels level 0 :=
  RegionSeg.ofHeldIn (pcfgs (F := F)) adm (pdats m) () defs₀ Variants.none levels level 0 (fun _ => 0) (Pipeline.ucRefs τ sig)
    (fun c => iprop(∃ r, prngReg c r)) (fun c => iprop(∃ r, prngReg c r)) launch0 rfl
    (fun c => (body0 (V1 m) c).loose) (fun _ _ => rfl) (fun _ => rfl) (fun c => (dat0 (V1 m) c).share_full fun _ => rfl)
    (fun c => enter0 (V1 m) c) (fun c => leave0 (V1 m) c) (fun _ => 0) (cut 0) (fun _ => iprop(emp)) (V1 m)
    (fun c w => array0 (V1 m) c w)

/-- The second pass reads its tables as the host wrote them. -/
theorem tables_there (c : Dev nD) (k : Fin pre1.K) : tables (F := F) k = W2 m c (Proc.devRef .tc (pre1.ref k)) := by
  have h : W2 m c (Proc.devRef .tc (pre1.ref k)) = V1 m c (Proc.devRef .tc (pre1.ref k)) :=
    Pipeline.afterRegion_of_not_arr (dat0 (V1 m) c) (V1 m c) (by revert k; decide)
  rw [h]
  match k with
  | ⟨0, _⟩ => rfl
  | ⟨1, _⟩ => rfl
  | ⟨2, _⟩ => rfl

/-- The second pass, from what the first leaves. -/
def pass1 : RegionSeg (pcfgs (F := F)) adm (pdats m) () defs₀ Variants.none levels level 1 :=
  RegionSeg.ofHeldInT (pcfgs (F := F)) adm (pdats m) () defs₀ Variants.none levels level 1 (fun _ => 0) (Pipeline.ucRefs τ sig)
    (fun c => iprop(∃ r, prngReg c r)) (fun c => iprop(∃ r, prngReg c r)) launch1
    (fun c => (body1 (W2 m) c).loose) (fun _ _ => rfl) (fun _ => rfl) (fun c => (dat1 (W2 m) c).share_full fun _ => rfl)
    (fun c => .rfl) (fun c => .rfl) (fun _ => 0) (cut 1) (fun _ => iprop(emp)) (W2 m)
    (fun c w => array1 (W2 m) c w) (tables_there m)

/-- The pipelines' ghost at launch. -/
def ghost : UR sig nD τ := initOf (Pipeline.cells (Pipeline.pin (pcfgs (F := F)) adm) (cellOf_inj adm)) (Pipeline.launchToks (Pipeline.pin (pcfgs (F := F)) adm) (cellOf_inj adm))

/-- What rides beside the buffers between the passes: nothing owed, and the generator's register. -/
abbrev beside (c : Dev nD) : sProp 𝕄 := iprop((∃ Wd, owes (c : Thread nD τ) (0 : CellTallies nD τ sig Unit) Wd) ∗ (∃ r, prngReg c r) ∗ emp)

theorem arrays_in0 : Pipeline.arrRefs (τ := τ) (pcfgs (F := F) 0).spec ⊆ Pipeline.ucRefs τ sig :=
  Pipeline.arrRefs_sub_ucRefs spec0 (by decide)

theorem arrays_in1 : Pipeline.arrRefs (τ := τ) (pcfgs (F := F) 1).spec ⊆ Pipeline.ucRefs τ sig :=
  Pipeline.arrRefs_sub_ucRefs spec1 (by decide)

theorem tables_in1 : Pipeline.tblRefs (τ := τ) (pcfgs (F := F) 1).pre ⊆ Pipeline.ucRefs τ sig :=
  Pipeline.tblRefs_sub_ucRefs pre1 (by decide)

theorem enters0 (c : Dev nD) : (iprop(StableHlo.held (c : Thread nD τ) (Pipeline.ucRefs τ sig) (V1 m c) ∗ beside c) : sProp 𝕄) ⊢ (pass0 m).pre c := by
  unfold pass0
  exact RegionSeg.ofHeldIn_pre (W := V1 m) (X := fun c => iprop(∃ r, prngReg c r)) (R := fun _ => iprop(emp)) (D := fun _ => 0) arrays_in0 c

theorem leaves0 (c : Dev nD) : (pass0 m).post c ⊢ (iprop(StableHlo.held (c : Thread nD τ) (Pipeline.ucRefs τ sig) (W2 m c) ∗ beside c) : sProp 𝕄) :=
  RegionSeg.ofHeldIn_post arrays_in0 c

theorem enters1 (c : Dev nD) : (iprop(StableHlo.held (c : Thread nD τ) (Pipeline.ucRefs τ sig) (W2 m c) ∗ beside c) : sProp 𝕄) ⊢ (pass1 m).pre c := by
  unfold pass1
  exact RegionSeg.ofHeldInT_pre (W := W2 m) (X := fun c => iprop(∃ r, prngReg c r)) (R := fun _ => iprop(emp)) (D := fun _ => 0) arrays_in1 tables_in1 c

theorem leaves1 (c : Dev nD) : (pass1 m).post c ⊢ (iprop(StableHlo.held (c : Thread nD τ) (Pipeline.ucRefs τ sig) (W3 m c) ∗ beside c) : sProp 𝕄) :=
  RegionSeg.ofHeldInT_post arrays_in1 tables_in1 c

/-- What rides beside the buffers ends owing nothing. -/
theorem beside_owes (c : Dev nD) : beside c ⊢ (iprop(∃ Wd, owes (c : Thread nD τ) (0 : CellTallies nD τ sig Unit) Wd) : sProp 𝕄) := by
  iintro ⟨H, -, -⟩; iexact H

/-- The pipelines' ghost pays for their cells at launch. -/
theorem ghost_pays : (ownU (ghost (F := F)) : sProp 𝕄) ⊢ |={Set.univ}=> iprop(BI.own ((emb₁ : Emb (UR sig nD τ) 𝕄)
      (initOf (Pipeline.cells (Pipeline.pin (pcfgs (F := F)) adm) (cellOf_inj adm)) (Pipeline.launchToks (Pipeline.pin (pcfgs (F := F)) adm) (cellOf_inj adm))))
    ∗ bigSep Finset.univ (fun _ : Dev nD => (BI.emp : sProp 𝕄))) := by
  rw [BI.bigSep_emp_const, ownU_emb₁]
  iintro Hu
  imodintro
  isplitl [Hu]; · iexact Hu
  iempintro

/-- An argument is as launched after both passes: the passes only read it. -/
theorem W3_arg (c : Dev nD) (r : Ref sig .tc) (h0 : ∀ w, Pipeline.arrRef spec0 w = r → (spec0 w).isOut = false)
    (h1 : ∀ w, Pipeline.arrRef spec1 w = r → (spec1 w).isOut = false) (hh : r ∉ hostOps0_W) :
    W3 m c (Proc.devRef .tc r) = m ((c : Thread nD τ).loc r) := by
  have e3 := Pipeline.afterRegion_keeps (dat1 (W2 m) c) (W2 m c) (launch1 (F := F)).win.arr_inj (array1 (W2 m) c) r h1
  have e2 := Pipeline.afterRegion_keeps (dat0 (V1 m) c) (V1 m c) (launch0 (F := F)).win.arr_inj (array0 (V1 m) c) r h0
  exact e3.trans (e2.trans ((V1_of m c r hh).trans rfl))

/-- The result's array as the second pass leaves it. -/
def final (c : Dev nD) : Buf (Elt F) ((c : Thread nD τ).loc main_v0) := (dat1 (W2 m) c).arrAt 8 (run1 (F := F)).N

theorem W3_out (c : Dev nD) : W3 m c (Proc.devRef .tc main_v0) = final m c :=
  Pipeline.afterRegion_arr (dat1 (W2 m) c) (W2 m c) (launch1 (F := F)).win.arr_inj 8

set_option backward.isDefEq.respectTransparency.types false in
/-- Every run ends with the arguments as launched, the result's array as the second pass leaves it, and every counter at zero. -/
theorem run_ends :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v0) = final m c)
      ∧ r.2.sem = fun _ => 0) := by
  refine Pipeline.θ_run_regions_kit_dev_sems (pcfgs (F := F)) adm (pdats m) () (cellOf_inj adm) (emb₁ : Emb (UR sig nD τ) 𝕄) defs₀ Variants.none levels level m ρ main
    (segs m Variants.none levels level (fun _ c => beside c) () adm (pdats m) (pass0 m) (pass1 m))
    (fun c Q => by
      rewrite [main_chain c, Seg.run_eq_chain,
        show (segs m Variants.none levels level (fun _ c => beside c) () adm (pdats m) (pass0 m) (pass1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) levels_off (fun _ => iprop(emp)) (ghost (F := F))
    ghost_pays
    (T₀ := fun c => iprop(StableHlo.held (c : Thread nD τ) (Pipeline.ucRefs τ sig) (V0 m c) ∗ beside c))
    (Tₙ := fun c => StableHlo.held (c : Thread nD τ) (Pipeline.ucRefs τ sig) (W3 m c))
    (hch := fun c => ⟨.rfl, enters0 m c, (leaves0 m c).trans (enters1 m c), (leaves1 m c).trans (sep_mono .rfl (beside_owes c))⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1)) ∧ s.mem ((c.tc : Thread nD τ).loc main_v0) = final m c)
    (hfin := fun c s' => ?_) (hQ := fun _ h hz => ⟨h, funext fun g => hz g (.inr (regions_no_unscoped g.2))⟩)
  · refine Pipeline.initEach levels level fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (W3_arg m c main_arg0 (by decide) (by decide) (by decide)),
        (h (Proc.devRef .tc main_arg1) (Finset.mem_filter.mpr ⟨StableHlo.devRef_mem_tcRefs main_arg1, by decide⟩)).trans (W3_arg m c main_arg1 (by decide) (by decide) (by decide))⟩,
        (h (Proc.devRef .tc main_v0) (Finset.mem_filter.mpr ⟨StableHlo.devRef_mem_tcRefs main_v0, by decide⟩)).trans (W3_out m c)⟩
    · iexact HSI

end Cert.KernelIdeal.Two
-- ==== Proof.Ideal.Pay.lean ====
module
public import proofs.«01_k».proof.Proof.Ideal.State0
public import Idealize.ShloMosaic.Lib.Pipeline.ValueKit
public import Idealize.ShloMosaic.PureOps.Ideal.Laws

@[expose] public section
set_option maxRecDepth 16384
noncomputable section
namespace Cert.KernelIdeal.Two

open Cert.KernelIdeal Cert.KernelIdeal.Gen
open Idealize.ShloMosaic Idealize.ShloMosaic.TcCoe Idealize.ShloMosaic.Tactic

/-! The bodies' values over the extended reals, read at an index. -/

theorem pay29_apply (a : FVec Ideal S400x10000 .f32) (g : FVec Ideal S10000x256 .f32) (p : Fin 400) (n : Fin 256) :
    k0_pay29 (F := Ideal) a g (ValueIdx.ix2 p n) = ∑ k : Fin 10000, a (ValueIdx.ix2 p k) * g (ValueIdx.ix2 k n) := by
  pointwise [k0_pay29]
  rfl

theorem pay30_apply (a : FVec Ideal S400x10000 .f32) (g : FVec Ideal S10000x256 .f32) (p : Fin 400) (n : Fin 128) :
    k0_pay30 (F := Ideal) a g (ValueIdx.ix2 p n) = ∑ k : Fin 10000, a (ValueIdx.ix2 p k) * g (ValueIdx.ix2 k (n.castLE (by decide))) := by
  pointwise [k0_pay30]
  exact pay29_apply a g p (n.castLE (by decide))

theorem pay31_apply (a : FVec Ideal S400x10000 .f32) (g : FVec Ideal S10000x256 .f32) (p : Fin 400) (n : Fin 128) :
    k0_pay31 (F := Ideal) a g (ValueIdx.ix2 p n) = ∑ k : Fin 10000, a (ValueIdx.ix2 p k) * g (ValueIdx.ix2 k (n.natAdd 128)) := by
  pointwise [k0_pay31]
  exact pay29_apply a g p (n.natAdd 128)

theorem pay32_apply (a : FVec Ideal S400x10000 .f32) (g : FVec Ideal S10000x256 .f32) (p : Fin 400) (n : Fin 128) :
    k0_pay32 (F := Ideal) a g (ValueIdx.ix2 p n) = k0_pay30 (F := Ideal) a g (ValueIdx.ix2 p n) * ((254⁻¹ : ℝ) : EReal) := by
  pointwise [k0_pay32]
  exact congrArg _ (IdealRules.named_const.ideal_named_scalar _ _ _ _ rfl)

theorem pay33_apply (a : FVec Ideal S400x10000 .f32) (g : FVec Ideal S10000x256 .f32) (n : Fin 128) :
    k0_pay33 (F := Ideal) a g (ValueIdx.ix3 0 0 n) = Ideal.ofBits .f32 0x3F000000#32 * ∑ p : Fin 400, k0_pay30 (F := Ideal) a g (ValueIdx.ix2 p n) := by
  pointwise [k0_pay33]
  rfl

theorem pay34_apply (v s : FVec Ideal S1x1x128 .f32) (n : Fin 128) :
    k0_pay34 (F := Ideal) v s (ValueIdx.ix3 0 0 n) = s (ValueIdx.ix3 0 0 n) + v (ValueIdx.ix3 0 0 n) := by
  pointwise [k0_pay34]

theorem pay35_apply (v : FVec Ideal S400x128 .f32) : k0_pay35 (F := Ideal) v = v := by
  unfold k0_pay35
  exact shapeCast_self _ _

theorem pay1_apply (v : FVec Ideal S2000x128 .f32) : k0_pay1 (F := Ideal) v = v := by
  unfold k0_pay1
  exact shapeCast_self _ _

theorem pay27_apply (v : FVec Ideal S10000x128 .bf16) (k : Fin 10000) (n : Fin 128) : k0_pay27 (F := Ideal) v (ValueIdx.ix2 k n) = v (ValueIdx.ix2 k n) := by
  pointwise [k0_pay27]

theorem pay28_apply (k : Fin 10000) (n : Fin 128) : k0_pay28 (F := Ideal) (ValueIdx.ix2 k n) = 0 := by
  pointwise [k0_pay28]

theorem pay2_apply (h : FVec Ideal S2000x128 .bf16) (q : IVec S5x400x2000 8) (o : FVec Ideal S2000x128 .f32) (s : FVec Ideal S1x1x128 .f32) (r : Fin 2000) (n : Fin 128) :
    k1_pay2 (F := Ideal) h q o s (ValueIdx.ix2 r n)
      = o (ValueIdx.ix2 r n) + (∑ k : Fin 2000, (((q (ValueIdx.ix3 (⟨r.val / 400, by omega⟩ : Fin 5) (⟨r.val % 400, by omega⟩ : Fin 400) k)).toInt : ℝ) : EReal) * h (ValueIdx.ix2 k n) + s (ValueIdx.ix3 0 0 n)) := by
  pointwise [k1_pay2]
  rfl

end Cert.KernelIdeal.Two
-- ==== Proof.Ideal.Consts.lean ====
module
public import Idealize.ShloMosaic.PureOps.Ideal.Laws

@[expose] public section
noncomputable section
namespace Cert.Aggregate

open Idealize.ShloMosaic

/-! The constants the two programs name by their bits, as real numbers, and finite sums of them. -/

theorem bits_254 : Idealize.ShloMosaic.Ideal.ofBits .f32 0x437E0000#32 = ((254 : ℝ) : EReal) := by
  simp [Idealize.ShloMosaic.Ideal.ofBits, Idealize.ShloMosaic.Ideal.ieee, -EReal.coe_mul]; norm_num
theorem bits_127 : Idealize.ShloMosaic.Ideal.ofBits .f32 0x42FE0000#32 = ((127 : ℝ) : EReal) := by
  simp [Idealize.ShloMosaic.Ideal.ofBits, Idealize.ShloMosaic.Ideal.ieee, -EReal.coe_mul]; norm_num
theorem bits_neg128 : Idealize.ShloMosaic.Ideal.ofBits .f32 0xC3000000#32 = ((-128 : ℝ) : EReal) := by
  simp [Idealize.ShloMosaic.Ideal.ofBits, Idealize.ShloMosaic.Ideal.ieee, -EReal.coe_mul]; norm_num
theorem bits_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num
theorem bits_inf : Idealize.ShloMosaic.Ideal.ofBits .f32 0x7F800000#32 = ⊤ := by
  simp [Idealize.ShloMosaic.Ideal.ofBits, Idealize.ShloMosaic.Ideal.ieee, -EReal.coe_mul]

/-- The real numbers' sums are the extended reals' sums. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- A sum of products of real entries, read off as a real sum over the naturals below. -/
theorem sum_products {n : ℕ} (u v : Fin n → EReal) (f : ℕ → ℝ) (h : ∀ k : Fin n, u k * v k = (f k.val : EReal)) :
    ∑ k : Fin n, u k * v k = ((∑ k ∈ Finset.range n, f k : ℝ) : EReal) := by
  rw [Finset.sum_congr rfl fun k _ => h k, ← coe_sum, Fin.sum_univ_eq_sum_range f n]

/-- The level the quantiser gives an entry. -/
def quantLevel (v : ℝ) : ℤ := max (-128) (min 127 (Idealize.ShloMosaic.Ideal.roundHalfEven (v * 254 - 127)))

theorem toInt_clamped (z : ℤ) : (BitVec.ofInt 8 (max (-128) (min 127 z))).toInt = max (-128) (min 127 z) := by
  rw [BitVec.toInt_ofInt]
  have h1 : -128 ≤ max (-128) (min 127 z) := le_max_left _ _
  have h2 : max (-128) (min 127 z) ≤ 127 := max_le (by decide) (min_le_left _ _)
  generalize max (-128) (min 127 z) = y at h1 h2
  unfold Int.bmod
  norm_num
  split <;> omega

/-- Rounding and clamping in the extended reals, on a real entry. -/
theorem clamped_toInt (v : ℝ) :
    (Idealize.ShloMosaic.Ideal.fptosi 8 (Idealize.ShloMosaic.Ideal.liftRound Idealize.ShloMosaic.Ideal.roundHalfEven ((v : EReal) * ((254 : ℝ) : EReal) - ((127 : ℝ) : EReal)))).toInt = quantLevel v := by
  rw [← EReal.coe_mul, ← EReal.coe_sub]
  show (BitVec.ofInt 8 (max _ (min _ (if (0 : ℝ) ≤ ((Idealize.ShloMosaic.Ideal.roundHalfEven (v * 254 - 127) : ℤ) : ℝ) then ⌊((Idealize.ShloMosaic.Ideal.roundHalfEven (v * 254 - 127) : ℤ) : ℝ)⌋ else ⌈((Idealize.ShloMosaic.Ideal.roundHalfEven (v * 254 - 127) : ℤ) : ℝ)⌉)))).toInt = _
  rw [Int.floor_intCast, Int.ceil_intCast, ite_self]
  exact toInt_clamped _

/-- The same level by the minimum and maximum of real numbers. -/
theorem level_real (v : ℝ) :
    min ((127 : ℝ) : EReal) (max ((-128 : ℝ) : EReal) (Idealize.ShloMosaic.Ideal.liftRound Idealize.ShloMosaic.Ideal.roundHalfEven ((v : EReal) * ((254 : ℝ) : EReal) - ((127 : ℝ) : EReal))))
      = (((quantLevel v : ℤ) : ℝ) : EReal) := by
  rw [← EReal.coe_mul, ← EReal.coe_sub]
  show min ((127 : ℝ) : EReal) (max ((-128 : ℝ) : EReal) (((Idealize.ShloMosaic.Ideal.roundHalfEven (v * 254 - 127) : ℤ) : ℝ) : EReal)) = _
  unfold quantLevel
  generalize Idealize.ShloMosaic.Ideal.roundHalfEven (v * 254 - 127) = z
  rw [← EReal.coe_strictMono.monotone.map_max, ← EReal.coe_strictMono.monotone.map_min, Int.cast_max, Int.cast_min]
  refine congrArg _ ?_
  push_cast
  rw [max_min_distrib_left, max_eq_right (by norm_num : (-128 : ℝ) ≤ 127)]

end Cert.Aggregate
-- ==== Proof.Ideal.Values0.lean ====
module
public import proofs.«01_k».proof.Proof.Ideal.Pay
public import proofs.«01_k».proof.Proof.Ideal.Consts

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Cert.Aggregate

/-! The first pass over real entries: what it carries, and what it leaves, as real sums. -/

/-- An entry of the first product `adj @ x`. -/
def first (a x : ℕ → ℕ → ℝ) (i n : ℕ) : ℝ := ∑ k ∈ Finset.range 10000, a i k * x k n

/-- An entry of the accumulator once `b` bands are complete. -/
def cell (a x : ℕ → ℕ → ℝ) (b k n : ℕ) : ℝ := if n < 128 then x k n else if k < 2000 * b then first a x k (n - 128) else 0

variable {a x : ℕ → ℕ → ℝ} {A : ℕ → FVec Ideal S400x10000 .f32} {X : FVec Ideal S10000x128 .bf16}

/-- The panels' entries and the vector's are these real numbers. -/
structure Entries (a x : ℕ → ℕ → ℝ) (A : ℕ → FVec Ideal S400x10000 .f32) (X : FVec Ideal S10000x128 .bf16) : Prop where
  panel : ∀ n, n < 25 → ∀ (p : Fin 400) (k : Fin 10000), A n (ValueIdx.ix2 p k) = (a (n * 400 + p.val) k.val : EReal)
  vector : ∀ (k : Fin 10000) (n : Fin 128), X (ValueIdx.ix2 k n) = (x k.val n.val : EReal)

theorem product_left (h : Entries a x A X) {n : ℕ} (hn : n < 25) {b : ℕ} {g : FVec Ideal S10000x256 .f32}
    (hg : ∀ (k : Fin 10000) (m : Fin 256), g (ValueIdx.ix2 k m) = (cell a x b k.val m.val : EReal)) (p : Fin 400) (m : Fin 128) :
    k0_pay30 (F := Ideal) (A n) g (ValueIdx.ix2 p m) = (first a x (n * 400 + p.val) m.val : EReal) := by
  rw [pay30_apply]
  refine (sum_products _ _ (fun k => a (n * 400 + p.val) k * x k m.val) fun k => ?_)
  rw [h.panel n hn, hg, ← EReal.coe_mul]
  unfold cell
  exact congrArg (fun z : ℝ => ((a (n * 400 + p.val) k.val * z : ℝ) : EReal)) (if_pos m.isLt)

theorem product_right (h : Entries a x A X) {n : ℕ} (hn : n < 25) {b : ℕ} {g : FVec Ideal S10000x256 .f32}
    (hg : ∀ (k : Fin 10000) (m : Fin 256), g (ValueIdx.ix2 k m) = (cell a x b k.val m.val : EReal)) (p : Fin 400) (m : Fin 128) :
    k0_pay31 (F := Ideal) (A n) g (ValueIdx.ix2 p m)
      = ((∑ k ∈ Finset.range 10000, a (n * 400 + p.val) k * (if k < 2000 * b then first a x k m.val else 0) : ℝ) : EReal) := by
  rw [pay31_apply]
  refine (sum_products _ _ (fun k => a (n * 400 + p.val) k * (if k < 2000 * b then first a x k m.val else 0)) fun k => ?_)
  rw [h.panel n hn, hg, ← EReal.coe_mul]
  unfold cell
  have hm : (Fin.natAdd 128 m).val = 128 + m.val := rfl
  rw [if_neg (by omega), hm, Nat.add_sub_cancel_left]

theorem start_cell (h : Entries a x A X) (g : FVec Ideal S10000x256 .f32) (k : Fin 10000) (m : Fin 256) :
    start (F := Ideal) g X (ValueIdx.ix2 k m) = (cell a x 0 k.val m.val : EReal) := by
  unfold start VecWindow.put cell
  by_cases hm : m.val < 128
  · rw [dif_neg (fun hc => by have := (hc 1).1; have h2 : (128 : ℕ) ≤ m.val := this; omega), if_pos hm, dif_pos (show ∀ z : Fin 2, _ from fun z => match z with
      | 0 => ⟨Nat.zero_le _, lt_of_lt_of_eq k.isLt (Nat.zero_add _).symm⟩
      | 1 => ⟨Nat.zero_le _, lt_of_lt_of_eq hm (Nat.zero_add _).symm⟩)]
    refine Eq.trans (congrArg _ ?_) ((pay27_apply X k ⟨m.val, hm⟩).trans (h.vector k ⟨m.val, hm⟩))
    funext z
    match z with
    | 0 => rfl
    | 1 => rfl
  · rw [dif_pos (show ∀ z : Fin 2, _ from fun z => match z with
      | 0 => ⟨Nat.zero_le _, lt_of_lt_of_eq k.isLt (Nat.zero_add _).symm⟩
      | 1 => ⟨Nat.le_of_not_lt hm, m.isLt⟩), if_neg hm, if_neg (by omega)]
    refine Eq.trans (congrArg _ ?_) (pay28_apply k ⟨m.val - 128, by omega⟩)
    funext z
    match z with
    | 0 => rfl
    | 1 => rfl

/-- What is carried, before every point. -/
theorem carried_cell (h : Entries a x A X) : ∀ n, n < 25 →
    (∀ (k : Fin 10000) (m : Fin 256), (carried (F := Ideal) A X n).1 (ValueIdx.ix2 k m) = (cell a x (n / 5) k.val m.val : EReal))
    ∧ ∀ (r : Fin 2000) (m : Fin 128), r.val < 400 * (n % 5) → (carried (F := Ideal) A X n).2 (ValueIdx.ix2 r m) = (first a x (2000 * (n / 5) + r.val) m.val : EReal) := by
  intro n
  induction n with
  | zero => exact fun _ => ⟨fun k m => start_cell h _ k m, fun r m hr => absurd hr (Nat.not_lt_zero _)⟩
  | succ n ih =>
    intro hn
    obtain ⟨hg, hs⟩ := ih (by omega)
    have hst : ∀ (r : Fin 2000) (m : Fin 128), r.val < 400 * (n % 5 + 1) →
        staged (F := Ideal) n (A n) (carried (F := Ideal) A X n).1 (carried (F := Ideal) A X n).2 (ValueIdx.ix2 r m) = (first a x (2000 * (n / 5) + r.val) m.val : EReal) := by
      intro r m hr
      unfold staged VecWindow.put
      by_cases hb : r.val < 400 * (n % 5)
      · rw [dif_neg (fun hc => by have h2 : 400 * (n % 5) ≤ r.val := (hc 0).1; omega)]
        exact hs r m hb
      · rw [dif_pos (show ∀ z : Fin 2, _ from fun z => match z with
          | 0 => ⟨Nat.le_of_not_lt hb, show r.val < 400 * (n % 5) + 400 by omega⟩
          | 1 => ⟨Nat.zero_le _, lt_of_lt_of_eq m.isLt (Nat.zero_add _).symm⟩), pay35_apply]
        refine Eq.trans (congrArg _ (?_ : _ = ValueIdx.ix2 (⟨r.val - 400 * (n % 5), by omega⟩ : Fin 400) m)) ((product_left h (by omega) hg _ m).trans ?_)
        · funext z
          match z with
          | 0 => rfl
          | 1 => rfl
        · refine congrArg (fun i => ((first a x i m.val : ℝ) : EReal)) ?_
          show n * 400 + (r.val - 400 * (n % 5)) = _
          omega
    refine ⟨fun k m => ?_, fun r m hr => ?_⟩
    · show filled (F := Ideal) n (carried (F := Ideal) A X n).1 (staged (F := Ideal) n (A n) (carried (F := Ideal) A X n).1 (carried (F := Ideal) A X n).2) (ValueIdx.ix2 k m) = _
      unfold filled
      by_cases h4 : n % 5 = 4
      · rw [if_pos h4]
        unfold VecWindow.put
        by_cases hb : 2000 * (n / 5) ≤ k.val ∧ k.val < 2000 * (n / 5) + 2000 ∧ 128 ≤ m.val
        · rw [dif_pos (show ∀ z : Fin 2, _ from fun z => match z with
            | 0 => ⟨hb.1, hb.2.1⟩
            | 1 => ⟨hb.2.2, m.isLt⟩), pay1_apply]
          refine Eq.trans (congrArg _ (?_ : _ = ValueIdx.ix2 (⟨k.val - 2000 * (n / 5), by omega⟩ : Fin 2000) (⟨m.val - 128, by omega⟩ : Fin 128))) ((hst _ _ (by show k.val - 2000 * (n / 5) < _; omega)).trans ?_)
          · funext z
            match z with
            | 0 => rfl
            | 1 => rfl
          · unfold cell
            rw [if_neg (by omega), if_pos (by omega)]
            refine congrArg (fun i => ((first a x i (m.val - 128) : ℝ) : EReal)) ?_
            show 2000 * (n / 5) + (k.val - 2000 * (n / 5)) = _
            omega
        · rw [dif_neg (fun hc => hb ⟨(hc 0).1, (hc 0).2, (hc 1).1⟩), hg]
          unfold cell
          by_cases hm : m.val < 128
          · rw [if_pos hm, if_pos hm]
          · rw [if_neg hm, if_neg hm]
            by_cases hk : k.val < 2000 * (n / 5)
            · rw [if_pos hk, if_pos (by omega)]
            · rw [if_neg hk, if_neg (by omega)]
      · rw [if_neg h4, hg, show (n + 1) / 5 = n / 5 by omega]
    · show staged (F := Ideal) n (A n) (carried (F := Ideal) A X n).1 (carried (F := Ideal) A X n).2 (ValueIdx.ix2 r m) = _
      rw [hst r m (by omega), show (n + 1) / 5 = n / 5 by omega]

theorem left_at (h : Entries a x A X) {n : ℕ} (hn : n < 25) (p : Fin 400) (m : Fin 128) :
    k0_pay30 (F := Ideal) (A n) (accAt (F := Ideal) A X n) (ValueIdx.ix2 p m) = (first a x (n * 400 + p.val) m.val : EReal) :=
  product_left h hn (carried_cell h n hn).1 p m

theorem right_at (h : Entries a x A X) {n : ℕ} (hn : n < 25) (p : Fin 400) (m : Fin 128) :
    k0_pay31 (F := Ideal) (A n) (accAt (F := Ideal) A X n) (ValueIdx.ix2 p m)
      = ((∑ k ∈ Finset.range 10000, a (n * 400 + p.val) k * (if k < 2000 * (n / 5) then first a x k m.val else 0) : ℝ) : EReal) :=
  product_right h hn (carried_cell h n hn).1 p m

theorem scaled_at (h : Entries a x A X) {n : ℕ} (hn : n < 25) (p : Fin 400) (m : Fin 128) :
    k0_pay32 (F := Ideal) (A n) (accAt (F := Ideal) A X n) (ValueIdx.ix2 p m) = ((first a x (n * 400 + p.val) m.val * 254⁻¹ : ℝ) : EReal) := by
  rw [pay32_apply, left_at h hn, ← EReal.coe_mul]

theorem half_at (h : Entries a x A X) {n : ℕ} (hn : n < 25) (m : Fin 128) :
    k0_pay33 (F := Ideal) (A n) (accAt (F := Ideal) A X n) (ValueIdx.ix3 0 0 m) = ((1 / 2 * ∑ p ∈ Finset.range 400, first a x (n * 400 + p) m.val : ℝ) : EReal) := by
  rw [pay33_apply, bits_half, Finset.sum_congr rfl fun p _ => left_at h hn p m, ← coe_sum, ← EReal.coe_mul, Fin.sum_univ_eq_sum_range (fun p => first a x (n * 400 + p) m.val) 400]

/-- The half column sums, as far as the band has got. -/
theorem sums_at (h : Entries a x A X) : ∀ n, n < 25 → ∀ m : Fin 128,
    sumsAt (F := Ideal) A X n (ValueIdx.ix3 0 0 m) = ((1 / 2 * ∑ k ∈ Finset.range (400 * (n % 5 + 1)), first a x (2000 * (n / 5) + k) m.val : ℝ) : EReal) := by
  intro n
  induction n with
  | zero =>
    intro hn m
    show sums (F := Ideal) 0 (A 0) (accAt (F := Ideal) A X 0) _ (ValueIdx.ix3 0 0 m) = _
    unfold sums
    rw [if_pos rfl, half_at h hn]
  | succ n ih =>
    intro hn m
    show sums (F := Ideal) (n + 1) (A (n + 1)) (accAt (F := Ideal) A X (n + 1)) (sumsAt (F := Ideal) A X n) (ValueIdx.ix3 0 0 m) = _
    unfold sums
    by_cases h0 : (n + 1) % 5 = 0
    · rw [if_pos h0, half_at h hn, h0, show (n + 1) * 400 = 2000 * ((n + 1) / 5) by omega]
    · have e : ∀ p, first a x ((n + 1) * 400 + p) m.val = first a x (2000 * (n / 5) + (400 * (n % 5 + 1) + p)) m.val := fun p =>
        congrArg (fun i => first a x i m.val) (by omega)
      rw [if_neg h0, pay34_apply, half_at h hn, ih (by omega) m, ← EReal.coe_add, show (n + 1) / 5 = n / 5 by omega,
        show (n + 1) % 5 + 1 = (n % 5 + 1) + 1 by omega, Nat.mul_succ 400 (n % 5 + 1), Finset.sum_range_add, mul_add (1 / 2 : ℝ), Finset.sum_congr rfl fun p _ => e p]

end Cert.KernelIdeal.Two
-- ==== Proof.Ideal.Arrays0.lean ====
module
public import proofs.«01_k».proof.Proof.Ideal.Region0
public import Idealize.ShloMosaic.Lib.Pipeline.ValueKit

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F] (V : Dev nD → Valuation τ sig (Elt F))

/-! What the first pass's output arrays hold after it, read at an index. -/

/-- The block indices of the windows that move with the point. -/
theorem index0_0 : ∀ t : Fin cfg0.N, (cfg0.win 0).index t = ![t.val, 0] := (by decide +kernel : ∀ t : Fin grid0.N, win0_0.index t = ![t.val, 0])
theorem index0_1 : ∀ t : Fin cfg0.N, (cfg0.win 1).index t = ![0, 0] := (by decide +kernel : ∀ t : Fin grid0.N, win0_1.index t = ![0, 0])
theorem index0_2 : ∀ t : Fin cfg0.N, (cfg0.win 2).index t = ![t.val, 0] := (by decide +kernel : ∀ t : Fin grid0.N, win0_2.index t = ![t.val, 0])
theorem index0_3 : ∀ t : Fin cfg0.N, (cfg0.win 3).index t = ![t.val, 0] := (by decide +kernel : ∀ t : Fin grid0.N, win0_3.index t = ![t.val, 0])
theorem index0_4 : ∀ t : Fin cfg0.N, (cfg0.win 4).index t = ![min t.val 4, 0, 0] := (by decide +kernel : ∀ t : Fin grid0.N, win0_4.index t = ![min t.val 4, 0, 0])
theorem index0_5 : ∀ t : Fin cfg0.N, (cfg0.win 5).index t = ![min t.val 9, 0, 0] := (by decide +kernel : ∀ t : Fin grid0.N, win0_5.index t = ![min t.val 9, 0, 0])
theorem index0_6 : ∀ t : Fin cfg0.N, (cfg0.win 6).index t = ![min t.val 14, 0, 0] := (by decide +kernel : ∀ t : Fin grid0.N, win0_6.index t = ![min t.val 14, 0, 0])
theorem index0_7 : ∀ t : Fin cfg0.N, (cfg0.win 7).index t = ![min t.val 19, 0, 0] := (by decide +kernel : ∀ t : Fin grid0.N, win0_7.index t = ![min t.val 19, 0, 0])
theorem index0_8 : ∀ t : Fin cfg0.N, (cfg0.win 8).index t = ![min t.val 24, 0, 0] := (by decide +kernel : ∀ t : Fin grid0.N, win0_8.index t = ![min t.val 24, 0, 0])
theorem index0_9 : ∀ t : Fin cfg0.N, (cfg0.win 9).index t = ![t.val / 5, 0, 0] := (by decide +kernel : ∀ t : Fin grid0.N, win0_9.index t = ![t.val / 5, 0, 0])

/-- A row's place in its panel. -/
def inPanel (n : ℕ) : Fin 400 := ⟨n % 400, Nat.mod_lt _ (by decide)⟩

/-- The scaled first product, -/
def scaledArr (c : Dev nD) (j : S10000x128.Idx) : F .bf16 :=
  k0_pay32 (panels V c ((j 0).val / 400)) (accAt (panels V c) (vec0 V c) ((j 0).val / 400)) (ValueIdx.ix2 (inPanel (j 0).val) (j 1))
/-- the part of the second product the first pass adds up, -/
def partialArr (c : Dev nD) (j : S10000x128.Idx) : F .f32 :=
  k0_pay31 (panels V c ((j 0).val / 400)) (accAt (panels V c) (vec0 V c) ((j 0).val / 400)) (ValueIdx.ix2 (inPanel (j 0).val) (j 1))
/-- an entry of a quantised strip, -/
def quantAt (o : ℕ) (ho : o + 2000 ≤ 10000) (c : Dev nD) (n : ℕ) (p : Fin 400) (k : Fin 2000) : BitVec 8 :=
  quant (panels V c n (ValueIdx.ix2 p (⟨o + k.val, by have := k.isLt; omega⟩ : Fin 10000)))
/-- and the half column sums of the bands. -/
def halvesArr (c : Dev nD) (j : S5x1x128.Idx) : F .f32 :=
  sumsAt (panels V c) (vec0 V c) (5 * (j 0).val + 4) (ValueIdx.ix3 (0 : Fin 1) (0 : Fin 1) (j 2))

theorem inPanel_of {n t : ℕ} {p : Fin 400} (h : n = t * 400 + p.val) : n / 400 = t ∧ inPanel n = p := by
  have := p.isLt
  refine ⟨by omega, Fin.ext ?_⟩
  show n % 400 = p.val
  omega

theorem scaledArr_of (c : Dev nD) (j : S10000x128.Idx) (t : ℕ) (y : S400x128.Idx) (h0 : (j 0).val = t * 400 + (y 0).val) (h1 : (j 1).val = (y 1).val) :
    k0_pay32 (panels V c t) (accAt (panels V c) (vec0 V c) t) y = scaledArr V c j := by
  obtain ⟨ht, hp⟩ := inPanel_of (p := y 0) h0
  unfold scaledArr
  rw [ht, hp]
  refine congrArg _ ((ValueIdx.eq_ix2 y).trans ?_)
  rw [show y 1 = j 1 from Fin.ext h1.symm]
  rfl

theorem partialArr_of (c : Dev nD) (j : S10000x128.Idx) (t : ℕ) (y : S400x128.Idx) (h0 : (j 0).val = t * 400 + (y 0).val) (h1 : (j 1).val = (y 1).val) :
    k0_pay31 (panels V c t) (accAt (panels V c) (vec0 V c) t) y = partialArr V c j := by
  obtain ⟨ht, hp⟩ := inPanel_of (p := y 0) h0
  unfold partialArr
  rw [ht, hp]
  refine congrArg _ ((ValueIdx.eq_ix2 y).trans ?_)
  rw [show y 1 = j 1 from Fin.ext h1.symm]
  rfl

theorem quantAt_of (o : ℕ) (ho : o + 2000 ≤ 10000) (c : Dev nD) (n : ℕ) (p : Fin 400) (k : Fin 2000) (t : ℕ) (y : S1x400x2000.Idx)
    (h0 : n = t) (h1 : p.val = (y 1).val) (h2 : k.val = (y 2).val) :
    quantBlock o ho (panels V c t) y = quantAt V o ho c n p k := by
  subst h0
  unfold quantBlock quantAt
  exact congrArg (fun z => quant (panels V c n z)) (congrArg₂ ValueIdx.ix2 (Fin.ext h1.symm) (Fin.ext (congrArg (o + ·) h2.symm)))

theorem halvesArr_of (c : Dev nD) (j : S5x1x128.Idx) (t : ℕ) (y : S1x1x128.Idx) (ht : t % 5 = 4) (h0 : (j 0).val = t / 5) (h2 : (j 2).val = (y 2).val) :
    sumsAt (panels V c) (vec0 V c) t y = halvesArr V c j := by
  unfold halvesArr
  rw [show 5 * (j 0).val + 4 = t by omega]
  refine congrArg _ ((ValueIdx.eq_ix3 y).trans ?_)
  rw [show y 2 = j 2 from Fin.ext h2.symm, show y 0 = (0 : Fin 1) from Subsingleton.elim (α := Fin 1) _ _, show y 1 = (0 : Fin 1) from Subsingleton.elim (α := Fin 1) _ _]
  rfl

theorem arr0_2 (c : Dev nD) : (dat0 V c).arrAt 2 cfg0.N = scaledArr V c := by
  refine (dat0 V c).arrAt_eq_of_covers 2 _ (by decide +kernel) fun t hf y => ?_
  blk_simp
  rw [after0_2]
  refine scaledArr_of V c _ t.val y ?_ ?_ <;> blk_simp [index0_2 t] <;> simp

theorem arr0_3 (c : Dev nD) : (dat0 V c).arrAt 3 cfg0.N = partialArr V c := by
  refine (dat0 V c).arrAt_eq_of_covers 3 _ (by decide +kernel) fun t hf y => ?_
  blk_simp
  rw [after0_3]
  refine partialArr_of V c _ t.val y ?_ ?_ <;> blk_simp [index0_3 t] <;> simp

theorem arr0_4 (c : Dev nD) : (dat0 V c).arrAt 4 cfg0.N = fun j => quantAt V 0 (by decide) c (j 0).val (j 1) (j 2) := by
  refine (dat0 V c).arrAt_eq_of_covers 4 _ (by decide +kernel) fun t hf y => ?_
  blk_simp
  rw [after0_4]
  have hy : (y 0).val = 0 := Nat.lt_one_iff.mp (y 0).isLt
  refine quantAt_of V 0 _ c _ _ _ (min t.val 4) y ?_ ?_ ?_ <;> blk_simp [index0_4 t] <;> simp [hy]

theorem arr0_5 (c : Dev nD) : (dat0 V c).arrAt 5 cfg0.N = fun j => quantAt V 2000 (by decide) c (j 0).val (j 1) (j 2) := by
  refine (dat0 V c).arrAt_eq_of_covers 5 _ (by decide +kernel) fun t hf y => ?_
  blk_simp
  rw [after0_5]
  have hy : (y 0).val = 0 := Nat.lt_one_iff.mp (y 0).isLt
  refine quantAt_of V 2000 _ c _ _ _ (min t.val 9) y ?_ ?_ ?_ <;> blk_simp [index0_5 t] <;> simp [hy]

theorem arr0_6 (c : Dev nD) : (dat0 V c).arrAt 6 cfg0.N = fun j => quantAt V 4000 (by decide) c (j 0).val (j 1) (j 2) := by
  refine (dat0 V c).arrAt_eq_of_covers 6 _ (by decide +kernel) fun t hf y => ?_
  blk_simp
  rw [after0_6]
  have hy : (y 0).val = 0 := Nat.lt_one_iff.mp (y 0).isLt
  refine quantAt_of V 4000 _ c _ _ _ (min t.val 14) y ?_ ?_ ?_ <;> blk_simp [index0_6 t] <;> simp [hy]

theorem arr0_7 (c : Dev nD) : (dat0 V c).arrAt 7 cfg0.N = fun j => quantAt V 6000 (by decide) c (j 0).val (j 1) (j 2) := by
  refine (dat0 V c).arrAt_eq_of_covers 7 _ (by decide +kernel) fun t hf y => ?_
  blk_simp
  rw [after0_7]
  have hy : (y 0).val = 0 := Nat.lt_one_iff.mp (y 0).isLt
  refine quantAt_of V 6000 _ c _ _ _ (min t.val 19) y ?_ ?_ ?_ <;> blk_simp [index0_7 t] <;> simp [hy]

theorem arr0_8 (c : Dev nD) : (dat0 V c).arrAt 8 cfg0.N = fun j => quantAt V 8000 (by decide) c (j 0).val (j 1) (j 2) := by
  refine (dat0 V c).arrAt_eq_of_covers 8 _ (by decide +kernel) fun t hf y => ?_
  blk_simp
  rw [after0_8]
  have hy : (y 0).val = 0 := Nat.lt_one_iff.mp (y 0).isLt
  refine quantAt_of V 8000 _ c _ _ _ (min t.val 24) y ?_ ?_ ?_ <;> blk_simp [index0_8 t] <;> simp [hy]

theorem arr0_9 (c : Dev nD) : (dat0 V c).arrAt 9 cfg0.N = halvesArr V c := by
  refine (dat0 V c).arrAt_eq_of_covers 9 _ (by decide +kernel) fun t hf y => ?_
  blk_simp
  rw [after0_9]
  have hy : (y 0).val = 0 := Nat.lt_one_iff.mp (y 0).isLt
  refine halvesArr_of V c _ t.val y ((flush0_9 t).mp hf) ?_ ?_ <;> blk_simp [index0_9 t] <;> simp [hy]

end Cert.KernelIdeal.Two
-- ==== Proof.Ideal.Values1.lean ====
module
public import proofs.«01_k».proof.Proof.Ideal.Values0
public import proofs.«01_k».proof.Proof.Ideal.Arrays0
public import proofs.«01_k».proof.Proof.Ideal.Run
public import Idealize.ShloMosaic.Lib.Pipeline.Covers

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.ShloMosaic.Pipeline (Dat Cfg Window)
open Cert.Aggregate

/-! The second pass over real entries, and the result's array. -/

variable (m : (ℓ : Loc nD τ sig) → Buf (Elt Ideal) ℓ) (c : Dev nD) {a x : ℕ → ℕ → ℝ}

/-- The two arguments' entries are these real numbers. -/
structure Arguments (a x : ℕ → ℕ → ℝ) : Prop where
  matrix : ∀ (i k : Fin 10000), (show FVec Ideal S10000x10000 .f32 from m ((c : Thread nD τ).loc main_arg1)) (ValueIdx.ix2 i k) = (a i.val k.val : EReal)
  vector : ∀ (k : Fin 10000) (n : Fin 128), (show FVec Ideal S10000x128 .f32 from m ((c : Thread nD τ).loc main_arg0)) (ValueIdx.ix2 k n) = (x k.val n.val : EReal)

theorem entries (h : Arguments m c a x) : Entries a x (panels (V1 m) c) (vec0 (V1 m) c) where
  panel n hn p k := by
    have hp := p.isLt
    refine Eq.trans ?_ (h.matrix ⟨n * 400 + p.val, by omega⟩ k)
    unfold panels block0
    blk_simp
    refine (congrFun (V1_of m c main_arg1 (by decide)) _).trans ?_
    have ht : (at0 n).val = n := Nat.mod_eq_of_lt hn
    refine congrArg (m ((c : Thread nD τ).loc main_arg1)) ?_
    blk_ext [index0_0 (at0 n), ht]
  vector k n := by
    refine Eq.trans ?_ (h.vector k n)
    unfold vec0 block0
    blk_simp
    show m ((c : Thread nD τ).loc main_arg0) _ = _
    refine congrArg (m ((c : Thread nD τ).loc main_arg0)) ?_
    blk_ext [index0_1 (at0 0)]

theorem W2_0 : W2 m c (Proc.devRef .tc main_call0_v1_0) = scaledArr (V1 m) c := (Pipeline.afterRegion_arr (dat0 (V1 m) c) (V1 m c) (launch0 (F := Ideal)).win.arr_inj 2).trans (arr0_2 _ c)
theorem W2_1 : W2 m c (Proc.devRef .tc main_call0_v1_1) = partialArr (V1 m) c := (Pipeline.afterRegion_arr (dat0 (V1 m) c) (V1 m c) (launch0 (F := Ideal)).win.arr_inj 3).trans (arr0_3 _ c)
theorem W2_2 : W2 m c (Proc.devRef .tc main_call0_v1_2) = fun j => quantAt (V1 m) 0 (by decide) c (j 0).val (j 1) (j 2) := (Pipeline.afterRegion_arr (dat0 (V1 m) c) (V1 m c) (launch0 (F := Ideal)).win.arr_inj 4).trans (arr0_4 _ c)
theorem W2_3 : W2 m c (Proc.devRef .tc main_call0_v1_3) = fun j => quantAt (V1 m) 2000 (by decide) c (j 0).val (j 1) (j 2) := (Pipeline.afterRegion_arr (dat0 (V1 m) c) (V1 m c) (launch0 (F := Ideal)).win.arr_inj 5).trans (arr0_5 _ c)
theorem W2_4 : W2 m c (Proc.devRef .tc main_call0_v1_4) = fun j => quantAt (V1 m) 4000 (by decide) c (j 0).val (j 1) (j 2) := (Pipeline.afterRegion_arr (dat0 (V1 m) c) (V1 m c) (launch0 (F := Ideal)).win.arr_inj 6).trans (arr0_6 _ c)
theorem W2_5 : W2 m c (Proc.devRef .tc main_call0_v1_5) = fun j => quantAt (V1 m) 6000 (by decide) c (j 0).val (j 1) (j 2) := (Pipeline.afterRegion_arr (dat0 (V1 m) c) (V1 m c) (launch0 (F := Ideal)).win.arr_inj 7).trans (arr0_7 _ c)
theorem W2_6 : W2 m c (Proc.devRef .tc main_call0_v1_6) = fun j => quantAt (V1 m) 8000 (by decide) c (j 0).val (j 1) (j 2) := (Pipeline.afterRegion_arr (dat0 (V1 m) c) (V1 m c) (launch0 (F := Ideal)).win.arr_inj 8).trans (arr0_8 _ c)
theorem W2_7 : W2 m c (Proc.devRef .tc main_call0_v1_7) = halvesArr (V1 m) c := (Pipeline.afterRegion_arr (dat0 (V1 m) c) (V1 m c) (launch0 (F := Ideal)).win.arr_inj 9).trans (arr0_9 _ c)

variable {m c}

theorem scaled_entry (h : Arguments m c a x) (k : Fin 10000) (n : Fin 128) :
    scaledArr (F := Ideal) (V1 m) c (ValueIdx.ix2 k n) = ((first a x k.val n.val * 254⁻¹ : ℝ) : EReal) := by
  refine (scaled_at (entries m c h) (n := k.val / 400) (by omega) (inPanel k.val) n).trans ?_
  refine congrArg (fun i => ((first a x i n.val * 254⁻¹ : ℝ) : EReal)) ?_
  show k.val / 400 * 400 + k.val % 400 = k.val
  omega

/-- An entry of the part of the second product that the first pass adds up: the columns of earlier bands. -/
def earlier (a x : ℕ → ℕ → ℝ) (i n : ℕ) : ℝ := ∑ k ∈ Finset.range 10000, a i k * (if k < 2000 * (i / 2000) then first a x k n else 0)

theorem partial_entry (h : Arguments m c a x) (i : Fin 10000) (n : Fin 128) :
    partialArr (F := Ideal) (V1 m) c (ValueIdx.ix2 i n) = (earlier a x i.val n.val : EReal) := by
  refine (right_at (entries m c h) (n := i.val / 400) (by omega) (inPanel i.val) n).trans ?_
  unfold earlier
  have e1 : i.val / 400 * 400 + (inPanel i.val).val = i.val := by
    show i.val / 400 * 400 + i.val % 400 = i.val
    omega
  rw [e1, show i.val / 400 / 5 = i.val / 2000 by omega]

theorem halves_entry (h : Arguments m c a x) (b : Fin 5) (n : Fin 128) :
    halvesArr (F := Ideal) (V1 m) c (ValueIdx.ix3 b 0 n) = ((1 / 2 * ∑ k ∈ Finset.range 2000, first a x (2000 * b.val + k) n.val : ℝ) : EReal) := by
  refine (sums_at (entries m c h) (5 * b.val + 4) (by omega) n).trans ?_
  rw [show (5 * b.val + 4) / 5 = b.val by omega, show 400 * ((5 * b.val + 4) % 5 + 1) = 2000 by omega]

theorem quant_entry (h : Arguments m c a x) (o : ℕ) (ho : o + 2000 ≤ 10000) (n : ℕ) (hn : n < 25) (p : Fin 400) (k : Fin 2000) :
    (quantAt (F := Ideal) (V1 m) o ho c n p k).toInt = quantLevel (a (n * 400 + p.val) (o + k.val)) := by
  have e : panels (F := Ideal) (V1 m) c n (ValueIdx.ix2 p (⟨o + k.val, by omega⟩ : Fin 10000)) = (a (n * 400 + p.val) (o + k.val) : EReal) :=
    (entries m c h).panel n hn p ⟨o + k.val, by omega⟩
  unfold quantAt quant
  rw [e]
  show (Idealize.ShloMosaic.Ideal.fptosi 8 (Idealize.ShloMosaic.Ideal.liftRound Idealize.ShloMosaic.Ideal.roundHalfEven ((a (n * 400 + p.val) (o + k.val) : EReal) * Idealize.ShloMosaic.Ideal.ofBits .f32 0x437E0000#32 - Idealize.ShloMosaic.Ideal.ofBits .f32 0x42FE0000#32))).toInt = _
  rw [bits_254, bits_127]
  exact clamped_toInt _

/-! The second pass's blocks. -/

theorem read_scaled (h : Arguments m c a x) (t : Fin (run1 (F := Ideal)).N) (k : Fin 10000) (n : Fin 128) :
    block1 (F := Ideal) (W2 m) c 5 t (ValueIdx.ix2 k n) = ((first a x k.val n.val * 254⁻¹ : ℝ) : EReal) := by
  refine Eq.trans ?_ (scaled_entry h k n)
  unfold block1
  refine Eq.trans ?_ (congrFun (W2_0 m c) (ValueIdx.ix2 k n))
  show W2 m c (Proc.devRef .tc main_call0_v1_0) _ = _
  refine congrArg (W2 m c (Proc.devRef .tc main_call0_v1_0)) (funext fun z : Fin 2 => Fin.ext ?_)
  refine (Pipeline.Window.rect_emb_val ((run1 (F := Ideal)).win 5) t (ValueIdx.ix2 k n) z).trans ?_
  match z with
  | 0 => show 0 * 10000 + k.val = k.val; omega
  | 1 => show 0 * 128 + n.val = n.val; omega

theorem read_halves (h : Arguments m c a x) (t : Fin (run1 (F := Ideal)).N) (n : Fin 128) :
    block1 (F := Ideal) (W2 m) c 6 t (ValueIdx.ix3 0 0 n) = ((1 / 2 * ∑ k ∈ Finset.range 2000, first a x (2000 * (stripOf (num1 t)).val + k) n.val : ℝ) : EReal) := by
  refine Eq.trans ?_ (halves_entry h (stripOf (num1 t)) n)
  unfold block1
  refine Eq.trans ?_ (congrFun (W2_7 m c) (ValueIdx.ix3 (stripOf (num1 t)) 0 n))
  show W2 m c (Proc.devRef .tc main_call0_v1_7) _ = _
  refine congrArg (W2 m c (Proc.devRef .tc main_call0_v1_7)) (funext fun z : Fin 3 => Fin.ext ?_)
  refine (Pipeline.Window.rect_emb_val ((run1 (F := Ideal)).win 6) t (ValueIdx.ix3 0 0 n) z).trans ?_
  have e := index1_6 (F := Ideal) (grid1.coords t)
  rw [num1_coord] at e
  refine (congrArg (fun f : Fin 3 → ℕ => f z * S1x1x128.size z + (ValueIdx.ix3 (0 : Fin 1) (0 : Fin 1) n z).val) e).trans ?_
  match z with
  | 0 => show (stripOf (num1 t)).val * 1 + 0 = _; exact Nat.mul_one _
  | 1 => rfl
  | 2 => show 0 * 128 + n.val = n.val; omega

theorem read_partial (h : Arguments m c a x) (t : Fin (run1 (F := Ideal)).N) (r : Fin 2000) (n : Fin 128) :
    block1 (F := Ideal) (W2 m) c 7 t (ValueIdx.ix2 r n) = (earlier a x ((bandOf (num1 t)).val * 2000 + r.val) n.val : EReal) := by
  refine Eq.trans ?_ (partial_entry h ⟨(bandOf (num1 t)).val * 2000 + r.val, by have := (bandOf (num1 t)).isLt; omega⟩ n)
  unfold block1
  refine Eq.trans ?_ (congrFun (W2_1 m c) _)
  show W2 m c (Proc.devRef .tc main_call0_v1_1) _ = _
  refine congrArg (W2 m c (Proc.devRef .tc main_call0_v1_1)) (funext fun z : Fin 2 => Fin.ext ?_)
  refine (Pipeline.Window.rect_emb_val ((run1 (F := Ideal)).win 7) t (ValueIdx.ix2 r n) z).trans ?_
  have e := index1_7 (F := Ideal) (grid1.coords t)
  rw [num1_coord] at e
  refine (congrArg (fun f : Fin 2 → ℕ => f z * S2000x128.size z + (ValueIdx.ix2 r n z).val) e).trans ?_
  match z with
  | 0 => rfl
  | 1 => show 0 * 128 + n.val = n.val; omega

theorem read_strip0 (h : Arguments m c a x) (t : Fin (run1 (F := Ideal)).N) (q : Fin 5) (p : Fin 400) (k : Fin 2000) :
    (show BitVec 8 from block1 (F := Ideal) (W2 m) c 0 t (ValueIdx.ix3 q p k)).toInt = quantLevel (a (((residentOf 0 (num1 t)).val * 5 + q.val) * 400 + p.val) (0 + k.val)) := by
  have hr := resident_le 0 (num1 t)
  refine Eq.trans ?_ (quant_entry h 0 (by decide) ((residentOf 0 (num1 t)).val * 5 + q.val) (by have := (residentOf 0 (num1 t)).isLt; omega) p k)
  refine congrArg BitVec.toInt ?_
  have hb : (residentOf 0 (num1 t)).val * 5 + q.val < 5 := by have h' : (residentOf 0 (num1 t)).val ≤ 0 := hr; omega
  unfold block1
  refine Eq.trans ?_ (congrFun (W2_2 m c) (ValueIdx.ix3 (⟨(residentOf 0 (num1 t)).val * 5 + q.val, hb⟩ : Fin 5) p k))
  show W2 m c (Proc.devRef .tc main_call0_v1_2) _ = _
  refine congrArg (W2 m c (Proc.devRef .tc main_call0_v1_2)) (funext fun z : Fin 3 => Fin.ext ?_)
  refine (Pipeline.Window.rect_emb_val ((run1 (F := Ideal)).win 0) t (ValueIdx.ix3 q p k) z).trans ?_
  have e := index1_0 (F := Ideal) (grid1.coords t)
  rw [num1_coord] at e
  refine (congrArg (fun f : Fin 3 → ℕ => f z * S5x400x2000.size z + (ValueIdx.ix3 q p k z).val) e).trans ?_
  match z with
  | 0 => rfl
  | 1 => show 0 * 400 + p.val = p.val; omega
  | 2 => show 0 * 2000 + k.val = k.val; omega

theorem read_strip1 (h : Arguments m c a x) (t : Fin (run1 (F := Ideal)).N) (q : Fin 5) (p : Fin 400) (k : Fin 2000) :
    (show BitVec 8 from block1 (F := Ideal) (W2 m) c 1 t (ValueIdx.ix3 q p k)).toInt = quantLevel (a (((residentOf 1 (num1 t)).val * 5 + q.val) * 400 + p.val) (2000 + k.val)) := by
  have hr := resident_le 1 (num1 t)
  refine Eq.trans ?_ (quant_entry h 2000 (by decide) ((residentOf 1 (num1 t)).val * 5 + q.val) (by have := (residentOf 1 (num1 t)).isLt; omega) p k)
  refine congrArg BitVec.toInt ?_
  have hb : (residentOf 1 (num1 t)).val * 5 + q.val < 10 := by have h' : (residentOf 1 (num1 t)).val ≤ 1 := hr; omega
  unfold block1
  refine Eq.trans ?_ (congrFun (W2_3 m c) (ValueIdx.ix3 (⟨(residentOf 1 (num1 t)).val * 5 + q.val, hb⟩ : Fin 10) p k))
  show W2 m c (Proc.devRef .tc main_call0_v1_3) _ = _
  refine congrArg (W2 m c (Proc.devRef .tc main_call0_v1_3)) (funext fun z : Fin 3 => Fin.ext ?_)
  refine (Pipeline.Window.rect_emb_val ((run1 (F := Ideal)).win 1) t (ValueIdx.ix3 q p k) z).trans ?_
  have e := index1_1 (F := Ideal) (grid1.coords t)
  rw [num1_coord] at e
  refine (congrArg (fun f : Fin 3 → ℕ => f z * S5x400x2000.size z + (ValueIdx.ix3 q p k z).val) e).trans ?_
  match z with
  | 0 => rfl
  | 1 => show 0 * 400 + p.val = p.val; omega
  | 2 => show 0 * 2000 + k.val = k.val; omega

theorem read_strip2 (h : Arguments m c a x) (t : Fin (run1 (F := Ideal)).N) (q : Fin 5) (p : Fin 400) (k : Fin 2000) :
    (show BitVec 8 from block1 (F := Ideal) (W2 m) c 2 t (ValueIdx.ix3 q p k)).toInt = quantLevel (a (((residentOf 2 (num1 t)).val * 5 + q.val) * 400 + p.val) (4000 + k.val)) := by
  have hr := resident_le 2 (num1 t)
  refine Eq.trans ?_ (quant_entry h 4000 (by decide) ((residentOf 2 (num1 t)).val * 5 + q.val) (by have := (residentOf 2 (num1 t)).isLt; omega) p k)
  refine congrArg BitVec.toInt ?_
  have hb : (residentOf 2 (num1 t)).val * 5 + q.val < 15 := by have h' : (residentOf 2 (num1 t)).val ≤ 2 := hr; omega
  unfold block1
  refine Eq.trans ?_ (congrFun (W2_4 m c) (ValueIdx.ix3 (⟨(residentOf 2 (num1 t)).val * 5 + q.val, hb⟩ : Fin 15) p k))
  show W2 m c (Proc.devRef .tc main_call0_v1_4) _ = _
  refine congrArg (W2 m c (Proc.devRef .tc main_call0_v1_4)) (funext fun z : Fin 3 => Fin.ext ?_)
  refine (Pipeline.Window.rect_emb_val ((run1 (F := Ideal)).win 2) t (ValueIdx.ix3 q p k) z).trans ?_
  have e := index1_2 (F := Ideal) (grid1.coords t)
  rw [num1_coord] at e
  refine (congrArg (fun f : Fin 3 → ℕ => f z * S5x400x2000.size z + (ValueIdx.ix3 q p k z).val) e).trans ?_
  match z with
  | 0 => rfl
  | 1 => show 0 * 400 + p.val = p.val; omega
  | 2 => show 0 * 2000 + k.val = k.val; omega

theorem read_strip3 (h : Arguments m c a x) (t : Fin (run1 (F := Ideal)).N) (q : Fin 5) (p : Fin 400) (k : Fin 2000) :
    (show BitVec 8 from block1 (F := Ideal) (W2 m) c 3 t (ValueIdx.ix3 q p k)).toInt = quantLevel (a (((residentOf 3 (num1 t)).val * 5 + q.val) * 400 + p.val) (6000 + k.val)) := by
  have hr := resident_le 3 (num1 t)
  refine Eq.trans ?_ (quant_entry h 6000 (by decide) ((residentOf 3 (num1 t)).val * 5 + q.val) (by have := (residentOf 3 (num1 t)).isLt; omega) p k)
  refine congrArg BitVec.toInt ?_
  have hb : (residentOf 3 (num1 t)).val * 5 + q.val < 20 := by have h' : (residentOf 3 (num1 t)).val ≤ 3 := hr; omega
  unfold block1
  refine Eq.trans ?_ (congrFun (W2_5 m c) (ValueIdx.ix3 (⟨(residentOf 3 (num1 t)).val * 5 + q.val, hb⟩ : Fin 20) p k))
  show W2 m c (Proc.devRef .tc main_call0_v1_5) _ = _
  refine congrArg (W2 m c (Proc.devRef .tc main_call0_v1_5)) (funext fun z : Fin 3 => Fin.ext ?_)
  refine (Pipeline.Window.rect_emb_val ((run1 (F := Ideal)).win 3) t (ValueIdx.ix3 q p k) z).trans ?_
  have e := index1_3 (F := Ideal) (grid1.coords t)
  rw [num1_coord] at e
  refine (congrArg (fun f : Fin 3 → ℕ => f z * S5x400x2000.size z + (ValueIdx.ix3 q p k z).val) e).trans ?_
  match z with
  | 0 => rfl
  | 1 => show 0 * 400 + p.val = p.val; omega
  | 2 => show 0 * 2000 + k.val = k.val; omega

theorem read_strip4 (h : Arguments m c a x) (t : Fin (run1 (F := Ideal)).N) (q : Fin 5) (p : Fin 400) (k : Fin 2000) :
    (show BitVec 8 from block1 (F := Ideal) (W2 m) c 4 t (ValueIdx.ix3 q p k)).toInt = quantLevel (a (((residentOf 4 (num1 t)).val * 5 + q.val) * 400 + p.val) (8000 + k.val)) := by
  have hr := resident_le 4 (num1 t)
  refine Eq.trans ?_ (quant_entry h 8000 (by decide) ((residentOf 4 (num1 t)).val * 5 + q.val) (by have := (residentOf 4 (num1 t)).isLt; omega) p k)
  refine congrArg BitVec.toInt ?_
  have hb : (residentOf 4 (num1 t)).val * 5 + q.val < 25 := by have h' : (residentOf 4 (num1 t)).val ≤ 4 := hr; omega
  unfold block1
  refine Eq.trans ?_ (congrFun (W2_6 m c) (ValueIdx.ix3 (⟨(residentOf 4 (num1 t)).val * 5 + q.val, hb⟩ : Fin 25) p k))
  show W2 m c (Proc.devRef .tc main_call0_v1_6) _ = _
  refine congrArg (W2 m c (Proc.devRef .tc main_call0_v1_6)) (funext fun z : Fin 3 => Fin.ext ?_)
  refine (Pipeline.Window.rect_emb_val ((run1 (F := Ideal)).win 4) t (ValueIdx.ix3 q p k) z).trans ?_
  have e := index1_4 (F := Ideal) (grid1.coords t)
  rw [num1_coord] at e
  refine (congrArg (fun f : Fin 3 → ℕ => f z * S5x400x2000.size z + (ValueIdx.ix3 q p k z).val) e).trans ?_
  match z with
  | 0 => rfl
  | 1 => show 0 * 400 + p.val = p.val; omega
  | 2 => show 0 * 2000 + k.val = k.val; omega

end Cert.KernelIdeal.Two
-- ==== Proof.Ideal.Finite.lean ====
module
public import proofs.«01_k».proof.Defs
public import proofs.«01_k».proof.Proof.Gen.KernelIdeal
public import proofs.«01_k».proof.Proof.Ideal.Values1
public import Idealize.ShloMosaic.Lib.Pipeline.ValueKit

@[expose] public section
set_option maxRecDepth 16384
noncomputable section
namespace Cert.Pre_finite.Reading

open Idealize.ShloMosaic Idealize.ShloMosaic.TcCoe
open Cert.Aggregate

/-! What the precondition says: every entry of the two arguments is a real number. -/

instance facts : Cert.Pre_finite.Facts where
  bcast_S_S10000x128 := by decide
  bcast_S_S10000x10000 := by decide

theorem real_of_below (v : EReal) (h : Idealize.ShloMosaic.Ideal.cmp .olt (max v (-v)) (Idealize.ShloMosaic.Ideal.ofBits .f32 0x7F800000#32) = 1#1) : v = (v.toReal : EReal) := by
  rw [bits_inf] at h
  have hlt : max v (-v) < ⊤ := by
    by_contra hn
    have : Idealize.ShloMosaic.Ideal.cmp .olt (max v (-v)) ⊤ = 0#1 := by
      show BitVec.ofBool (decide (max v (-v) < ⊤)) = 0#1
      rw [decide_eq_false hn]
      rfl
    rw [this] at h
    exact absurd h (by decide)
  have h1 : v ≠ ⊤ := ne_of_lt (lt_of_le_of_lt (le_max_left _ _) hlt)
  have h2 : v ≠ ⊥ := fun hb => by
    rw [hb] at hlt
    exact absurd (lt_of_le_of_lt (le_max_right _ _) hlt) (by simp)
  exact (EReal.coe_toReal h1 h2).symm

/-- An array's entries as real numbers, zero outside it. -/
def realOf {p q : ℕ} (A : (⟨2, ![p, q]⟩ : Shape).Idx → EReal) (i k : ℕ) : ℝ :=
  if h : i < p ∧ k < q then (A (ValueIdx.ix2 ⟨i, h.1⟩ ⟨k, h.2⟩)).toReal else 0

theorem realOf_apply {p q : ℕ} (A : (⟨2, ![p, q]⟩ : Shape).Idx → EReal) (i : Fin p) (k : Fin q) : realOf A i.val k.val = (A (ValueIdx.ix2 i k)).toReal :=
  dif_pos ⟨i.isLt, k.isLt⟩

theorem arguments (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Two.Arguments m c (realOf (p := 10000) (q := 10000) (m ((c.tc : Thread Cert.KernelIdeal.nD Cert.KernelIdeal.τ).loc Cert.KernelIdeal.main_arg1)))
      (realOf (p := 10000) (q := 128) (m ((c.tc : Thread Cert.KernelIdeal.nD Cert.KernelIdeal.τ).loc Cert.KernelIdeal.main_arg0))) where
  matrix i k := by
    rw [realOf_apply]
    exact real_of_below _ (congrFun (h c).2 (ValueIdx.ix2 i k))
  vector k n := by
    rw [realOf_apply]
    exact real_of_below _ (congrFun (h c).1 (ValueIdx.ix2 k n))

end Cert.Pre_finite.Reading
-- ==== Proof.Ideal.Values2.lean ====
module
public import proofs.«01_k».proof.Proof.Ideal.Values1

@[expose] public section
set_option maxRecDepth 16384
noncomputable section
namespace Cert.KernelIdeal.Two

open Cert.KernelIdeal Cert.KernelIdeal.Gen
open Idealize.ShloMosaic Idealize.ShloMosaic.TcCoe Idealize.ShloMosaic.Tactic
open Idealize.ShloMosaic.Pipeline (Dat Cfg Window)
open Cert.Aggregate

variable {m : (ℓ : Loc nD τ sig) → Buf (Elt Ideal) ℓ} {c : Dev nD} {a x : ℕ → ℕ → ℝ}

/-! The second pass's sums over real entries, and the result's array. -/

/-- What one quantised band of columns adds to an entry of the second product. -/
def share (a x : ℕ → ℕ → ℝ) (i s n : ℕ) : ℝ :=
  ∑ k ∈ Finset.range 2000, (quantLevel (a i (2000 * s + k)) : ℝ) * (first a x (2000 * s + k) n * 254⁻¹) + 1 / 2 * ∑ k ∈ Finset.range 2000, first a x (2000 * s + k) n

theorem pick_reads (s : Fin 5) (q0 q1 q2 q3 q4 : Vec Ideal S5x400x2000 .i8) (y : S5x400x2000.Idx) (R : Fin 5 → ℤ)
    (h0 : (show BitVec 8 from q0 y).toInt = R 0) (h1 : (show BitVec 8 from q1 y).toInt = R 1) (h2 : (show BitVec 8 from q2 y).toInt = R 2)
    (h3 : (show BitVec 8 from q3 y).toInt = R 3) (h4 : (show BitVec 8 from q4 y).toInt = R 4) :
    (show BitVec 8 from pick (F := Ideal) s q0 q1 q2 q3 q4 y).toInt = R s :=
  match s with
  | 0 => h0
  | 1 => h1
  | 2 => h2
  | 3 => h3
  | 4 => h4

theorem column_of (i d e k : ℕ) (h : d = e) : quantLevel (a i (d + k)) = quantLevel (a i (e + k)) := by rw [h]

theorem pick_at (h : Arguments m c a x) (t : Fin (run1 (F := Ideal)).N) (q : Fin 5) (p : Fin 400) (k : Fin 2000) (s : Fin 5)
    (hs : residentOf s (num1 t) = bandOf (num1 t)) :
    (show BitVec 8 from pick (F := Ideal) s (block1 (W2 m) c 0 t) (block1 (W2 m) c 1 t) (block1 (W2 m) c 2 t) (block1 (W2 m) c 3 t) (block1 (W2 m) c 4 t) (ValueIdx.ix3 q p k)).toInt
      = quantLevel (a (((bandOf (num1 t)).val * 5 + q.val) * 400 + p.val) (2000 * s.val + k.val)) := by
  have e := pick_reads s (block1 (F := Ideal) (W2 m) c 0 t) (block1 (F := Ideal) (W2 m) c 1 t) (block1 (F := Ideal) (W2 m) c 2 t) (block1 (F := Ideal) (W2 m) c 3 t) (block1 (F := Ideal) (W2 m) c 4 t) (ValueIdx.ix3 q p k)
    (fun s => quantLevel (a (((residentOf s (num1 t)).val * 5 + q.val) * 400 + p.val) (2000 * s.val + k.val)))
    ((read_strip0 h t q p k).trans (column_of _ _ _ _ (by decide)))
    ((read_strip1 h t q p k).trans (column_of _ _ _ _ (by decide)))
    ((read_strip2 h t q p k).trans (column_of _ _ _ _ (by decide)))
    ((read_strip3 h t q p k).trans (column_of _ _ _ _ (by decide)))
    ((read_strip4 h t q p k).trans (column_of _ _ _ _ (by decide)))
  rw [← hs]
  exact e

theorem step_at (h : Arguments m c a x) (t : Fin (run1 (F := Ideal)).N) (o : FVec Ideal S2000x128 .f32) (r : Fin 2000) (n : Fin 128) (base : ℝ)
    (ho : opened (F := Ideal) (stripOf (num1 t)) (bandOf (num1 t)) (block1 (W2 m) c 7 t) o (ValueIdx.ix2 r n) = (base : EReal)) :
    step1 (F := Ideal) (W2 m) c t o (ValueIdx.ix2 r n)
      = ((base + share a x ((bandOf (num1 t)).val * 2000 + r.val) (stripOf (num1 t)).val n.val : ℝ) : EReal) := by
  unfold step1
  rw [pay2_apply, ho]
  have hb : block1 (F := Ideal) (W2 m) c 6 t (ValueIdx.ix3 0 0 n) = _ := read_halves h t n
  rw [hb, sum_products _ _ (fun k => (quantLevel (a ((bandOf (num1 t)).val * 2000 + r.val) (2000 * (stripOf (num1 t)).val + k)) : ℝ) * (first a x (2000 * (stripOf (num1 t)).val + k) n.val * 254⁻¹)) fun k => ?_,
    ← EReal.coe_add, ← EReal.coe_add]
  · rfl
  · rw [pick_at h t _ _ k (stripOf (num1 t)) (resident_at (num1 t)), EReal.coe_mul]
    refine congrArg₂ (· * ·) (congrArg (fun i => ((quantLevel (a i (2000 * (stripOf (num1 t)).val + k.val)) : ℝ) : EReal)) ?_) ?_
    · show ((bandOf (num1 t)).val * 5 + r.val / 400) * 400 + r.val % 400 = _
      omega
    · have hs := (stripOf (num1 t)).isLt
      refine Eq.trans ?_ (read_scaled h t ⟨2000 * (stripOf (num1 t)).val + k.val, by omega⟩ n)
      unfold rowsAt VecWindow.window
      refine congrArg (block1 (F := Ideal) (W2 m) c 5 t) (funext fun z : Fin 2 => Fin.ext ?_)
      match z with
      | 0 => show 2000 * (stripOf (num1 t)).val + 1 * k.val = _; rw [Nat.one_mul]
      | 1 => show 0 + 1 * n.val = n.val; omega

/-- Away from a band's first point the point before is the same band's, one strip earlier. -/
theorem strip_step : ∀ n : Fin 15, ¬stripOf n = bandOf n → n.val ≠ 0 ∧ bandOf ⟨n.val - 1, by omega⟩ = bandOf n
    ∧ (stripOf n).val = (stripOf ⟨n.val - 1, by omega⟩).val + 1 ∧ (bandOf n).val ≤ (stripOf ⟨n.val - 1, by omega⟩).val := by decide +kernel

theorem num1_at1 (n : ℕ) (hn : n < 15) : num1 (at1 (F := Ideal) n) = ⟨n, hn⟩ := Fin.ext (Nat.mod_eq_of_lt hn)

/-- The running sum after each point: the first pass's part, and the shares of the strips met so far. -/
theorem total_at (h : Arguments m c a x) (r : Fin 2000) (n : Fin 128) : ∀ (j : ℕ) (hj : j < 15),
    total1 (F := Ideal) (W2 m) c j (ValueIdx.ix2 r n)
      = ((earlier a x ((bandOf ⟨j, hj⟩).val * 2000 + r.val) n.val
          + ∑ s ∈ Finset.Icc (bandOf ⟨j, hj⟩).val (stripOf ⟨j, hj⟩).val, share a x ((bandOf ⟨j, hj⟩).val * 2000 + r.val) s n.val : ℝ) : EReal) := by
  intro j
  induction j with
  | zero =>
    intro hj
    have e := num1_at1 0 hj
    refine (step_at h (at1 0) _ r n (earlier a x ((bandOf ⟨0, hj⟩).val * 2000 + r.val) n.val) ?_).trans ?_
    · rw [← e]
      exact (congrFun (ite_self _) _).trans (read_partial h (at1 0) r n)
    · rw [e]
      refine congrArg (fun z : ℝ => ((earlier a x ((bandOf ⟨0, hj⟩).val * 2000 + r.val) n.val + z : ℝ) : EReal)) ?_
      exact (Finset.sum_singleton (fun s => share a x ((bandOf ⟨0, hj⟩).val * 2000 + r.val) s n.val) 0).symm
  | succ j ih =>
    intro hj
    have e := num1_at1 (j + 1) hj
    by_cases hb : stripOf ⟨j + 1, hj⟩ = bandOf ⟨j + 1, hj⟩
    · refine (step_at h (at1 (j + 1)) _ r n (earlier a x ((bandOf ⟨j + 1, hj⟩).val * 2000 + r.val) n.val) ?_).trans ?_
      · rw [← e]
        rw [← e] at hb
        exact (congrFun (if_pos hb) _).trans (read_partial h (at1 (j + 1)) r n)
      · rw [e, hb, Finset.Icc_self, Finset.sum_singleton]
    · obtain ⟨-, h1, h2, h3⟩ := strip_step ⟨j + 1, hj⟩ hb
      have hi := ih (by omega)
      refine (step_at h (at1 (j + 1)) _ r n _ ((congrFun (if_neg (by rw [e]; exact hb)) _).trans hi)).trans ?_
      rw [e, show bandOf ⟨j, by omega⟩ = bandOf ⟨j + 1, hj⟩ from h1, add_assoc]
      refine congrArg (fun z : ℝ => ((earlier a x ((bandOf ⟨j + 1, hj⟩).val * 2000 + r.val) n.val + z : ℝ) : EReal)) ?_
      rw [h2]
      exact (Finset.sum_Icc_succ_top (show (bandOf ⟨j + 1, hj⟩).val ≤ (stripOf ⟨j, by omega⟩).val + 1 from le_trans (show (bandOf ⟨j + 1, hj⟩).val ≤ (stripOf ⟨j, by omega⟩).val from h3) (Nat.le_succ _)) fun s => share a x ((bandOf ⟨j + 1, hj⟩).val * 2000 + r.val) s n.val).symm

/-- An entry of the result: the first pass's part, and the shares of every later strip. -/
def entry (a x : ℕ → ℕ → ℝ) (i n : ℕ) : ℝ := earlier a x i n + ∑ s ∈ Finset.Icc (i / 2000) 4, share a x i s n

theorem last_strip : ∀ n : Fin 15, (∀ h : n.val + 1 < 15, bandOf n ≠ bandOf ⟨n.val + 1, h⟩) → stripOf n = 4 := by decide +kernel

theorem flushed_strip (t : Fin (run1 (F := Ideal)).N) (hf : ((run1 (F := Ideal)).win 8).flush t = true) : stripOf (num1 t) = 4 :=
  last_strip (num1 t) fun h he => by
    have := kept1_8 (F := Ideal) t h he
    rw [this] at hf
    exact absurd hf (by decide)

/-- The point each band begins at. -/
def startOf (b : Fin 5) : grid1.Coords := fun z : Fin 1 => match z with
  | 0 => (![0, 5, 9, 12, 14] : Fin 5 → Fin 15) b

theorem begins (b : Fin 5) : bandOf (startOf b 0) = b :=
  (by decide +kernel : ∀ b : Fin 5, bandOf ((![0, 5, 9, 12, 14] : Fin 5 → Fin 15) b) = b) b

theorem starts (b : Fin 5) : ((run1 (F := Ideal)).win 8).indexMap (startOf b) = ![b.val, 0] := by
  show cc1_transform_8 k1_off6_inb numel1_S1 (tables (F := Ideal)) (startOf b) = _
  rw [index1_8, begins]

theorem covers : ((run1 (F := Ideal)).win 8).Covers :=
  ((run1 (F := Ideal)).win 8).covers_of_indexMap_surj rfl (by show ∀ z : Fin 2, 0 < S2000x128.size z; decide) fun β =>
    ⟨startOf ⟨(β (0 : Fin 2)).val, lt_of_lt_of_eq (β (0 : Fin 2)).isLt (by decide : S10000x128.size 0 / S2000x128.size 0 = 5)⟩, fun z : Fin 2 => by
      refine (congrFun (starts _) z).trans ?_
      match z with
      | 0 => rfl
      | 1 => exact (Nat.lt_one_iff.mp (lt_of_lt_of_eq (β (1 : Fin 2)).isLt (by decide : S10000x128.size 1 / S2000x128.size 1 = 1))).symm⟩

theorem final_at (h : Arguments m c a x) : final (F := Ideal) m c = fun j : S10000x128.Idx => (entry a x (j 0).val (j 1).val : EReal) := by
  unfold final
  refine (dat1 (W2 m) c).arrAt_eq_of_covers 8 _ covers fun t hf y => ?_
  have hs := flushed_strip t hf
  blk_simp
  rw [after1_8]
  have e0 : ((run1 (F := Ideal)).win 8).index t 0 = (bandOf (num1 t)).val := by
    show cc1_transform_8 k1_off6_inb numel1_S1 (tables (F := Ideal)) (grid1.coords t) 0 = _
    rw [index1_8, num1_coord t]
    rfl
  have e1 : ((run1 (F := Ideal)).win 8).index t 1 = 0 := by
    show cc1_transform_8 k1_off6_inb numel1_S1 (tables (F := Ideal)) (grid1.coords t) 1 = _
    rw [index1_8]
    rfl
  rw [e0, e1, Nat.zero_mul, Nat.zero_add]
  have hy : (y 0).val < 2000 := (y 0).isLt
  have hN : t.val < 15 := lt_of_lt_of_eq t.isLt (show (run1 (F := Ideal)).N = 15 from N_1)
  refine (congrArg (total1 (F := Ideal) (W2 m) c t.val) (?_ : y = ValueIdx.ix2 (⟨(y 0).val, hy⟩ : Fin 2000) (y 1))).trans ((total_at h ⟨(y 0).val, hy⟩ (y 1) t.val hN).trans ?_)
  · refine funext fun z : Fin 2 => ?_
    match z with
    | 0 => rfl
    | 1 => rfl
  · rw [show (⟨t.val, hN⟩ : Fin 15) = num1 t from rfl, hs]
    unfold entry
    rw [show ((bandOf (num1 t)).val * 2000 + (y 0).val) / 2000 = (bandOf (num1 t)).val by omega]
    rfl

end Cert.KernelIdeal.Two
-- ==== Proof.Ideal.Identity.lean ====
module
public import proofs.«01_k».proof.Proof.Ideal.Values2

@[expose] public section
noncomputable section
namespace Cert.KernelIdeal.Two

open Cert.Aggregate

/-! The two ways of writing an entry of the result agree over the reals. -/

/-- The entry as the reference has it: a column of an earlier band is met exactly, any other as its quantised level. -/
def plain (a x : ℕ → ℕ → ℝ) (i n : ℕ) : ℝ :=
  ∑ k ∈ Finset.range 10000, (if k / 2000 < i / 2000 then a i k else ((quantLevel (a i k) : ℝ) + 127) * 254⁻¹) * first a x k n

/-- Ten thousand columns are five bands of two thousand. -/
theorem sum_bands (f : ℕ → ℝ) : ∑ k ∈ Finset.range 10000, f k = ∑ s ∈ Finset.range 5, ∑ k ∈ Finset.range 2000, f (2000 * s + k) := by
  have e : ∀ n : ℕ, ∑ k ∈ Finset.range (2000 * n), f k = ∑ s ∈ Finset.range n, ∑ k ∈ Finset.range 2000, f (2000 * s + k) := by
    intro n
    induction n with
    | zero => rfl
    | succ n ih => rw [Nat.mul_succ, Finset.sum_range_add, ih]; exact (Finset.sum_range_succ (fun s => ∑ k ∈ Finset.range 2000, f (2000 * s + k)) n).symm
  exact e 5

/-- A quantised band's share is the sum of its decoded columns. -/
theorem share_eq (a x : ℕ → ℕ → ℝ) (i s n : ℕ) :
    share a x i s n = ∑ k ∈ Finset.range 2000, ((quantLevel (a i (2000 * s + k)) : ℝ) + 127) * 254⁻¹ * first a x (2000 * s + k) n := by
  unfold share
  rw [Finset.mul_sum, ← Finset.sum_add_distrib]
  refine Finset.sum_congr rfl fun k _ => ?_
  ring

theorem entry_eq (a x : ℕ → ℕ → ℝ) (i n : ℕ) (hi : i < 10000) : entry a x i n = plain a x i n := by
  have hb : i / 2000 < 5 := by omega
  have hIcc : Finset.Icc (i / 2000) 4 = (Finset.range 5).filter fun s => ¬s < i / 2000 := by
    ext s
    rw [Finset.mem_Icc, Finset.mem_filter, Finset.mem_range]
    omega
  unfold entry earlier plain
  rw [sum_bands, sum_bands, hIcc, Finset.sum_filter, ← Finset.sum_add_distrib]
  refine Finset.sum_congr rfl fun s _ => ?_
  have hk : ∀ k ∈ Finset.range 2000, (2000 * s + k) / 2000 = s ∧ (2000 * s + k < 2000 * (i / 2000) ↔ s < i / 2000) := by
    intro k h
    have := Finset.mem_range.mp h
    omega
  by_cases hs : s < i / 2000
  · rw [if_neg (not_not.mpr hs), add_zero]
    refine Finset.sum_congr rfl fun k h => ?_
    rw [if_pos ((hk k h).2.mpr hs), (hk k h).1, if_pos hs]
  · rw [if_pos hs, share_eq, Finset.sum_eq_zero, zero_add]
    · refine Finset.sum_congr rfl fun k h => ?_
      rw [(hk k h).1, if_neg hs]
    · intro k h
      rw [if_neg fun hlt => hs ((hk k h).2.mp hlt), mul_zero]

end Cert.KernelIdeal.Two
-- ==== Proof.Ideal.Plain.lean ====
module
public import proofs.«01_k».proof.Proof.Gen.ReferenceIdeal
public import proofs.«01_k».proof.Proof.Ideal.Identity
public import Idealize.ShloMosaic.Lib.Pipeline.ValueKit

@[expose] public section
set_option maxRecDepth 16384
noncomputable section
namespace Cert.ReferenceIdeal.Reading

open Cert.ReferenceIdeal Cert.ReferenceIdeal.Gen
open Idealize.ShloMosaic Idealize.ShloMosaic.TcCoe Idealize.ShloMosaic.Tactic
open Cert.Aggregate

/-! The reference's result over real entries. -/

/-- The band of each row, as the reference counts it. -/
def bands : IVec S10000 32 :=
  shapeCast _ (broadcastInDim S5x2000 ![0, 1] bcast_S5x1_S5x2000_0_1 (broadcastInDim S5x1 ![0] bcast_S5_S5x1_0 (iotaInDim S5 32 0))) shapeCasts_S5x2000_S10000

theorem bands_apply (i : Fin 10000) : bands (ValueIdx.ix1 i) = BitVec.ofNat 32 (i.val / 2000) := by
  pointwise [bands]

/-- Whether column k lies in a band before row i's. -/
def exact : IVec S10000x10000 1 :=
  cmpi .slt (broadcastInDim S10000x10000 ![0, 1] bcast_S1x10000_S10000x10000_0_1 (broadcastInDim S1x10000 ![1] bcast_S10000_S1x10000_1 bands))
    (broadcastInDim S10000x10000 ![0, 1] bcast_S10000x1_S10000x10000_0_1 (broadcastInDim S10000x1 ![0] bcast_S10000_S10000x1_0 bands))

theorem below_word : ∀ p q : Fin 5, IntOp.cmpi CmpIPredicate.slt (BitVec.ofNat 32 p.val) (BitVec.ofNat 32 q.val) = if p.val < q.val then 1#1 else 0#1 := by decide +kernel

theorem exact_apply (i k : Fin 10000) : exact (ValueIdx.ix2 i k) = if k.val / 2000 < i.val / 2000 then 1#1 else 0#1 := by
  pointwise [exact]
  show IntOp.cmpi CmpIPredicate.slt (bands (ValueIdx.ix1 k)) (bands (ValueIdx.ix1 i)) = _
  rw [bands_apply, bands_apply]
  exact below_word ⟨k.val / 2000, by have := k.isLt; omega⟩ ⟨i.val / 2000, by have := i.isLt; omega⟩

/-- The quantised matrix, decoded. -/
def decoded (A : FVec Ideal S10000x10000 .f32) : FVec Ideal S10000x10000 .f32 :=
  Host.divf (addf (minimumf (broadcastInDim S10000x10000 ![] bcast_S_S10000x10000 (id (constant S_ .f32 0x42FE0000#32))) (maximumf (broadcastInDim S10000x10000 ![] bcast_S_S10000x10000 (id (constant S_ .f32 0xC3000000#32))) (Host.roundeven (subf (mulf A (broadcastInDim S10000x10000 ![] bcast_S_S10000x10000 (constant S_ .f32 0x437E0000#32))) (broadcastInDim S10000x10000 ![] bcast_S_S10000x10000 (constant S_ .f32 0x42FE0000#32)))))) (broadcastInDim S10000x10000 ![] bcast_S_S10000x10000 (constant S_ .f32 0x42FE0000#32))) (broadcastInDim S10000x10000 ![] bcast_S_S10000x10000 (constant S_ .f32 0x437E0000#32))

theorem decoded_apply (A : FVec Ideal S10000x10000 .f32) (i k : Fin 10000) (v : ℝ) (h : A (ValueIdx.ix2 i k) = (v : EReal)) :
    decoded A (ValueIdx.ix2 i k) = ((((quantLevel v : ℤ) : ℝ) + 127) * 254⁻¹ : ℝ) := by
  pointwise [decoded]
  show Idealize.ShloMosaic.Ideal.div (min (Idealize.ShloMosaic.Ideal.ofBits .f32 0x42FE0000#32) (max (Idealize.ShloMosaic.Ideal.ofBits .f32 0xC3000000#32)
    (Idealize.ShloMosaic.Ideal.liftRound Idealize.ShloMosaic.Ideal.roundHalfEven (A (ValueIdx.ix2 i k) * Idealize.ShloMosaic.Ideal.ofBits .f32 0x437E0000#32 - Idealize.ShloMosaic.Ideal.ofBits .f32 0x42FE0000#32)))
    + Idealize.ShloMosaic.Ideal.ofBits .f32 0x42FE0000#32) (Idealize.ShloMosaic.Ideal.ofBits .f32 0x437E0000#32) = _
  rw [h, bits_254, bits_127, bits_neg128, level_real, Idealize.ShloMosaic.Ideal.div_coe (by norm_num), one_div, ← EReal.coe_add, ← EReal.coe_mul]

theorem product_apply (A : FVec Ideal S10000x10000 .f32) (X : FVec Ideal S10000x128 .f32) (i : Fin 10000) (n : Fin 128) :
    Host.dotGeneral dot_S10000x10000_S10000x128_S10000x128_1_0_0_1_n_n none A X (ValueIdx.ix2 i n) = ∑ k : Fin 10000, A (ValueIdx.ix2 i k) * X (ValueIdx.ix2 k n) := by
  pointwise
  rfl

/-- Over real entries the reference's result is the plain entry at every index. -/
theorem result_eq (A : FVec Ideal S10000x10000 .f32) (X : FVec Ideal S10000x128 .f32) (a x : ℕ → ℕ → ℝ)
    (hA : ∀ i k : Fin 10000, A (ValueIdx.ix2 i k) = (a i.val k.val : EReal)) (hX : ∀ (k : Fin 10000) (n : Fin 128), X (ValueIdx.ix2 k n) = (x k.val n.val : EReal)) :
    Host.dotGeneral dot_S10000x10000_S10000x128_S10000x128_1_0_0_1_n_n none (select exact A (decoded A)) (Host.dotGeneral dot_S10000x10000_S10000x128_S10000x128_1_0_0_1_n_n none A X)
      = fun j : S10000x128.Idx => (Cert.KernelIdeal.Two.plain a x (j 0).val (j 1).val : EReal) := by
  have first_at : ∀ (k : Fin 10000) (n : Fin 128), Host.dotGeneral (F := Ideal) dot_S10000x10000_S10000x128_S10000x128_1_0_0_1_n_n none A X (ValueIdx.ix2 k n) = (Cert.KernelIdeal.Two.first a x k.val n.val : EReal) := fun k n => by
    rw [product_apply]
    exact sum_products _ _ (fun p => a k.val p * x p n.val) fun p => by rw [hA, hX, EReal.coe_mul]
  have mixed_at : ∀ i k : Fin 10000, select exact A (decoded A) (ValueIdx.ix2 i k)
      = ((if k.val / 2000 < i.val / 2000 then a i.val k.val else ((quantLevel (a i.val k.val) : ℝ) + 127) * 254⁻¹ : ℝ) : EReal) := fun i k => by
    show (if exact (ValueIdx.ix2 i k) = 1#1 then A (ValueIdx.ix2 i k) else decoded A (ValueIdx.ix2 i k)) = _
    rw [exact_apply, decoded_apply A i k _ (hA i k), hA]
    by_cases hb : k.val / 2000 < i.val / 2000
    · rw [if_pos hb, if_pos hb, if_pos rfl]
    · rw [if_neg hb, if_neg hb, if_neg (by decide)]
  funext j
  obtain ⟨i, n, rfl⟩ : ∃ (i : Fin 10000) (n : Fin 128), j = ValueIdx.ix2 i n := ⟨j 0, j 1, funext fun z : Fin 2 => by
    match z with
    | 0 => rfl
    | 1 => rfl⟩
  rw [product_apply]
  exact sum_products _ _ (fun k => (if k / 2000 < i.val / 2000 then a i.val k else ((quantLevel (a i.val k) : ℝ) + 127) * 254⁻¹) * Cert.KernelIdeal.Two.first a x k n.val)
    fun k => by rw [mixed_at, first_at, EReal.coe_mul]

end Cert.ReferenceIdeal.Reading
-- ==== Proof.Ideal.Levels.lean ====
module
public import proofs.«01_k».proof.Proof.Gen.UnroundedIdeal
public import proofs.«01_k».proof.Proof.Ideal.Finite
public import proofs.«01_k».proof.Proof.Ideal.Identity

@[expose] public section
set_option maxRecDepth 16384
noncomputable section
namespace Cert.Pre_on_levels.Reading

open Idealize.ShloMosaic Idealize.ShloMosaic.TcCoe Idealize.ShloMosaic.Tactic
open Cert.Aggregate Cert.KernelIdeal.Two
open Cert.Pre_finite.Reading (realOf realOf_apply real_of_below)

/-! A matrix whose entries are levels is left as it is by the quantiser, so the result is the product of products. -/

instance facts : Cert.Pre_on_levels.Facts where
  bcast_S_S10000x10000 := by decide
  bcast_S_S10000x128 := by decide

theorem of_word (p : Prop) [Decidable p] (h : BitVec.ofBool (decide p) = 1#1) : p := by
  by_contra hn
  rw [decide_eq_false hn] at h
  exact absurd h (by decide)

/-- A real number that is a level decodes to itself. -/
theorem decoded_level (v : ℝ) (h0 : ((Idealize.ShloMosaic.Ideal.roundHalfEven (v * 254 - 127) : ℤ) : ℝ) = v * 254 - 127) (h1 : -128 ≤ v * 254 - 127) (h2 : v * 254 - 127 ≤ 127) :
    ((quantLevel v : ℝ) + 127) * 254⁻¹ = v := by
  unfold quantLevel
  rw [← h0] at h1 h2
  rw [min_eq_right (by exact_mod_cast h2), max_eq_right (by exact_mod_cast h1), h0]
  ring

/-- What the precondition says of an entry of the matrix. -/
theorem level_of_words (v : EReal)
    (h0 : Idealize.ShloMosaic.Ideal.cmp .oeq (Idealize.ShloMosaic.Ideal.liftRound Idealize.ShloMosaic.Ideal.roundHalfEven (v * Idealize.ShloMosaic.Ideal.ofBits .f32 0x437E0000#32 - Idealize.ShloMosaic.Ideal.ofBits .f32 0x42FE0000#32))
      (v * Idealize.ShloMosaic.Ideal.ofBits .f32 0x437E0000#32 - Idealize.ShloMosaic.Ideal.ofBits .f32 0x42FE0000#32) = 1#1)
    (h1 : Idealize.ShloMosaic.Ideal.cmp .oge (v * Idealize.ShloMosaic.Ideal.ofBits .f32 0x437E0000#32 - Idealize.ShloMosaic.Ideal.ofBits .f32 0x42FE0000#32) (Idealize.ShloMosaic.Ideal.ofBits .f32 0xC3000000#32) = 1#1)
    (h2 : Idealize.ShloMosaic.Ideal.cmp .ole (v * Idealize.ShloMosaic.Ideal.ofBits .f32 0x437E0000#32 - Idealize.ShloMosaic.Ideal.ofBits .f32 0x42FE0000#32) (Idealize.ShloMosaic.Ideal.ofBits .f32 0x42FE0000#32) = 1#1) :
    v = (v.toReal : EReal) ∧ ((quantLevel v.toReal : ℝ) + 127) * 254⁻¹ = v.toReal := by
  rw [bits_254, bits_127] at h0 h1 h2
  rw [bits_neg128] at h1
  replace h0 := of_word _ h0
  replace h1 : ((-128 : ℝ) : EReal) ≤ v * ((254 : ℝ) : EReal) - ((127 : ℝ) : EReal) := of_word _ h1
  replace h2 : v * ((254 : ℝ) : EReal) - ((127 : ℝ) : EReal) ≤ ((127 : ℝ) : EReal) := of_word _ h2
  induction v using EReal.rec with
  | bot =>
    rw [EReal.bot_mul_coe_of_pos (by norm_num), EReal.bot_sub] at h1
    exact absurd h1 (not_le.mpr (EReal.bot_lt_coe _))
  | top =>
    rw [EReal.top_mul_coe_of_pos (by norm_num), EReal.top_sub_coe] at h2
    exact absurd h2 (not_le.mpr (EReal.coe_lt_top _))
  | coe v =>
    rw [← EReal.coe_mul, ← EReal.coe_sub] at h0 h1 h2
    exact ⟨rfl, decoded_level v (EReal.coe_injective h0) (EReal.coe_le_coe_iff.mp h1) (EReal.coe_le_coe_iff.mp h2)⟩

section Memory
variable (m : (ℓ : Loc Cert.KernelIdeal.nD Cert.KernelIdeal.τ Cert.KernelIdeal.sig) → Buf (Elt Ideal) ℓ) (h : Cert.Pre_KernelIdeal_on_levels m) (c : Dev Cert.KernelIdeal.nD)
include h

theorem entry_level (i k : Fin 10000) :
    (show FVec Ideal Cert.KernelIdeal.S10000x10000 .f32 from m ((c.tc : Thread Cert.KernelIdeal.nD Cert.KernelIdeal.τ).loc Cert.KernelIdeal.main_arg1)) (ValueIdx.ix2 i k)
        = (realOf (p := 10000) (q := 10000) (m ((c.tc : Thread Cert.KernelIdeal.nD Cert.KernelIdeal.τ).loc Cert.KernelIdeal.main_arg1)) i.val k.val : EReal)
      ∧ ((quantLevel (realOf (p := 10000) (q := 10000) (m ((c.tc : Thread Cert.KernelIdeal.nD Cert.KernelIdeal.τ).loc Cert.KernelIdeal.main_arg1)) i.val k.val) : ℝ) + 127) * 254⁻¹
        = realOf (p := 10000) (q := 10000) (m ((c.tc : Thread Cert.KernelIdeal.nD Cert.KernelIdeal.τ).loc Cert.KernelIdeal.main_arg1)) i.val k.val := by
  rw [realOf_apply]
  exact level_of_words _ (congrFun (h c).2.1 (ValueIdx.ix2 i k)) (congrFun (h c).2.2.1 (ValueIdx.ix2 i k)) (congrFun (h c).2.2.2 (ValueIdx.ix2 i k))

theorem arguments : Arguments m c (realOf (p := 10000) (q := 10000) (m ((c.tc : Thread Cert.KernelIdeal.nD Cert.KernelIdeal.τ).loc Cert.KernelIdeal.main_arg1)))
    (realOf (p := 10000) (q := 128) (m ((c.tc : Thread Cert.KernelIdeal.nD Cert.KernelIdeal.τ).loc Cert.KernelIdeal.main_arg0))) where
  matrix i k := (entry_level m h c i k).1
  vector k n := by
    rw [realOf_apply]
    exact real_of_below _ (congrFun (h c).1 (ValueIdx.ix2 k n))

end Memory

/-- Where every entry is a level, the two matrices of the second product are the same. -/
theorem plain_of_levels (a x : ℕ → ℕ → ℝ) (h : ∀ i k : Fin 10000, ((quantLevel (a i.val k.val) : ℝ) + 127) * 254⁻¹ = a i.val k.val) (i : Fin 10000) (n : ℕ) :
    plain a x i.val n = ∑ k ∈ Finset.range 10000, a i.val k * first a x k n := by
  unfold plain
  refine Finset.sum_congr rfl fun k hk => ?_
  rw [h i ⟨k, Finset.mem_range.mp hk⟩, ite_self]

theorem product_apply (A : FVec Ideal Cert.UnroundedIdeal.S10000x10000 .f32) (X : FVec Ideal Cert.UnroundedIdeal.S10000x128 .f32) (i : Fin 10000) (n : Fin 128) :
    Host.dotGeneral Cert.UnroundedIdeal.dot_S10000x10000_S10000x128_S10000x128_1_0_0_1_n_n none A X (ValueIdx.ix2 i n) = ∑ k : Fin 10000, A (ValueIdx.ix2 i k) * X (ValueIdx.ix2 k n) := by
  pointwise
  rfl

/-- The product of products over real entries that are levels. -/
theorem result_eq (A : FVec Ideal Cert.UnroundedIdeal.S10000x10000 .f32) (X : FVec Ideal Cert.UnroundedIdeal.S10000x128 .f32) (a x : ℕ → ℕ → ℝ)
    (hA : ∀ i k : Fin 10000, A (ValueIdx.ix2 i k) = (a i.val k.val : EReal)) (hX : ∀ (k : Fin 10000) (n : Fin 128), X (ValueIdx.ix2 k n) = (x k.val n.val : EReal))
    (h : ∀ i k : Fin 10000, ((quantLevel (a i.val k.val) : ℝ) + 127) * 254⁻¹ = a i.val k.val) :
    Host.dotGeneral Cert.UnroundedIdeal.dot_S10000x10000_S10000x128_S10000x128_1_0_0_1_n_n none A (Host.dotGeneral Cert.UnroundedIdeal.dot_S10000x10000_S10000x128_S10000x128_1_0_0_1_n_n none A X)
      = fun j : Cert.UnroundedIdeal.S10000x128.Idx => (plain a x (j 0).val (j 1).val : EReal) := by
  have first_at : ∀ (k : Fin 10000) (n : Fin 128), Host.dotGeneral (F := Ideal) Cert.UnroundedIdeal.dot_S10000x10000_S10000x128_S10000x128_1_0_0_1_n_n none A X (ValueIdx.ix2 k n) = (first a x k.val n.val : EReal) := fun k n => by
    rw [product_apply]
    exact sum_products _ _ (fun p => a k.val p * x p n.val) fun p => by rw [hA, hX, EReal.coe_mul]
  funext j
  obtain ⟨i, n, rfl⟩ : ∃ (i : Fin 10000) (n : Fin 128), j = ValueIdx.ix2 i n := ⟨j 0, j 1, funext fun z : Fin 2 => by
    match z with
    | 0 => rfl
    | 1 => rfl⟩
  rw [product_apply]
  exact (sum_products _ _ (fun k => a i.val k * first a x k n.val) fun k => by rw [hA, first_at, EReal.coe_mul]).trans
    (congrArg _ (plain_of_levels a x h i n.val).symm)

end Cert.Pre_on_levels.Reading
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnroundedIdeal
public import proofs.«01_k».proof.Proof.Gen.UnroundedIdeal.Run
public import proofs.«01_k».proof.Proof.Bits.Run
public import proofs.«01_k».proof.Proof.Ideal.Run
public import proofs.«01_k».proof.Proof.Ideal.Finite
public import proofs.«01_k».proof.Proof.Ideal.Plain
public import proofs.«01_k».proof.Proof.Ideal.Levels
public import Idealize.ShloMosaic.Adequacy
public import Idealize.ShloMosaic.Init

@[expose] public section

noncomputable section

namespace Cert.Proof

open Idealize.ShloMosaic Idealize.ShloMosaic.TcCoe Idealize.SL.Sem

/-- The kernel as printed runs and leaves its arguments as they were. -/
theorem frame_kernel : Cert.quiescent_Kernel := fun m ρ _ =>
  (θ_run Cert.Kernel.defs _ _).mono (fun r h => ⟨fun c => (h.1 c).1, h.2⟩) (Cert.Kernel.Two.run_ends (F := Bits) m ρ)

/-- So does the ideal kernel. -/
theorem frame_ideal : Cert.quiescent_KernelIdeal := fun m ρ _ =>
  (θ_run Cert.KernelIdeal.defs _ _).mono (fun r h => ⟨fun c => (h.1 c).1, h.2⟩) (Cert.KernelIdeal.Two.run_ends (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so does the product of products. -/
theorem frame_unrounded : Cert.quiescent_UnroundedIdeal := fun m ρ _ =>
  (θ_run Cert.UnroundedIdeal.defs _ _).mono (fun r h => ⟨fun c => (h c).2, sem_eq_zero_of_no_sems (by decide) r.2⟩)
    (Cert.UnroundedIdeal.Value.run (F := Ideal) m ρ)

/-- The one named constant is the step's reciprocal. -/
theorem preserves : Cert.preserves_Kernel_KernelIdeal :=
  IdealRules.named_const.statement Cert.KernelIdeal.κ "step" .f32 0x3B810204#32 ((254⁻¹ : ℝ) : EReal) rfl

/-- Over finite arguments the ideal kernel and the reference end in the same array. -/
theorem algebraic : Cert.algebraic_KernelIdeal_ReferenceIdeal_pre_finite (hPre_finite := Cert.Pre_finite.Reading.facts) := fun m ρ m' ρ' hpre hargs =>
  ⟨fun c => Cert.KernelIdeal.Two.final (F := Ideal) m c,
    (θ_run Cert.KernelIdeal.defs _ _).mono (fun r h c => ⟨h.1 c |>.2, h.1 c |>.1⟩) (Cert.KernelIdeal.Two.run_ends (F := Ideal) m ρ),
    (θ_run Cert.ReferenceIdeal.defs _ _).mono (fun r h c => ⟨(h c).1.trans (by
        have hA := Cert.Pre_finite.Reading.arguments m hpre c
        rw [(hargs c).1, (hargs c).2]
        refine Eq.trans ?_ (Cert.KernelIdeal.Two.final_at hA).symm
        refine (Cert.ReferenceIdeal.Reading.result_eq _ _ _ _ hA.matrix hA.vector).trans (funext fun j => ?_)
        rw [Cert.KernelIdeal.Two.entry_eq _ _ _ _ (j 0).isLt]), (h c).2⟩)
      (Cert.ReferenceIdeal.Value.run (F := Ideal) m' ρ')⟩

/-- Where the vectors are finite and every entry of the matrix is a level, the ideal kernel ends in the product of products. -/
theorem algebraic_on_levels : Cert.algebraic_KernelIdeal_UnroundedIdeal_pre_on_levels (hPre_on_levels := Cert.Pre_on_levels.Reading.facts) := fun m ρ m' ρ' hpre hargs =>
  ⟨fun c => Cert.KernelIdeal.Two.final (F := Ideal) m c,
    (θ_run Cert.KernelIdeal.defs _ _).mono (fun r h c => ⟨h.1 c |>.2, h.1 c |>.1⟩) (Cert.KernelIdeal.Two.run_ends (F := Ideal) m ρ),
    (θ_run Cert.UnroundedIdeal.defs _ _).mono (fun r h c => ⟨(h c).1.trans (by
        have hA := Cert.Pre_on_levels.Reading.arguments m hpre c
        rw [(hargs c).1, (hargs c).2]
        refine Eq.trans ?_ (Cert.KernelIdeal.Two.final_at hA).symm
        refine (Cert.Pre_on_levels.Reading.result_eq _ _ _ _ hA.matrix hA.vector fun i k => (Cert.Pre_on_levels.Reading.entry_level m hpre c i k).2).trans (funext fun j => ?_)
        rw [Cert.KernelIdeal.Two.entry_eq _ _ _ _ (j 0).isLt]), (h c).2⟩)
      (Cert.UnroundedIdeal.Value.run (F := Ideal) m' ρ')⟩

theorem claim : Cert.Claim :=
  ⟨Cert.Kernel.Gen.facts, Cert.KernelIdeal.Gen.facts, Cert.ReferenceIdeal.Gen.facts, Cert.UnroundedIdeal.Gen.facts, Cert.Pre_finite.Reading.facts, Cert.Pre_on_levels.Reading.facts,
    frame_kernel, frame_ideal, fun m ρ _ => frame_ideal m ρ trivial, fun m ρ _ => frame_ideal m ρ trivial, frame_reference, fun m ρ _ => frame_reference m ρ trivial,
    frame_unrounded, fun m ρ _ => frame_unrounded m ρ trivial, preserves, algebraic, algebraic_on_levels⟩

end Cert.Proof

end
